-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dy_in_range [hPre_dy_in_range : Cert.Pre_dy_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_dy_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dy_in_range [hPre_dy_in_range : Cert.Pre_dy_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dy_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_dy_in_range [hKernelIdeal : Cert.KernelIdeal.Facts] [hPre_dy_in_range : Cert.Pre_dy_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dy_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_dy_in_range [hReferenceIdeal : Cert.ReferenceIdeal.Facts] [hPre_dy_in_range : Cert.Pre_dy_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dy_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_dy_in_range [hKernelIdeal : Cert.KernelIdeal.Facts] [hReferenceIdeal : Cert.ReferenceIdeal.Facts] [hPre_dy_in_range : Cert.Pre_dy_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dy_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_dy_in_range : Cert.Pre_dy_in_range.Facts),
    quiescent_Kernel (hKernel := hKernel)
    ∧ quiescent_KernelIdeal (hKernelIdeal := hKernelIdeal)
    ∧ quiescent_KernelIdeal_pre_dy_in_range (hKernelIdeal := hKernelIdeal) (hPre_dy_in_range := hPre_dy_in_range)
    ∧ quiescent_ReferenceIdeal (hReferenceIdeal := hReferenceIdeal)
    ∧ quiescent_ReferenceIdeal_pre_dy_in_range (hReferenceIdeal := hReferenceIdeal) (hPre_dy_in_range := hPre_dy_in_range)
    ∧ preserves_Kernel_KernelIdeal
    ∧ algebraic_KernelIdeal_ReferenceIdeal_pre_dy_in_range (hKernelIdeal := hKernelIdeal) (hReferenceIdeal := hReferenceIdeal) (hPre_dy_in_range := hPre_dy_in_range)
-- ==== Pre_dy_in_range.lean ====
abbrev S8x2048x1152 : Shape := ⟨3, ![8, 2048, 1152]⟩
abbrev S8x2048x2880 : Shape := ⟨3, ![8, 2048, 2880]⟩
abbrev S8x64x2880 : Shape := ⟨3, ![8, 64, 2880]⟩
abbrev S1152x2880 : Shape := ⟨2, ![1152, 2880]⟩
abbrev S36x2880 : Shape := ⟨2, ![36, 2880]⟩
abbrev S_ : Shape := ⟨0, ![]⟩

class Facts : Prop where
  bitsLt_bf16_f32 : FTy.bits .bf16 < FTy.bits .f32
  bcast_S_S8x2048x1152 : S_.BroadcastsInDim S8x2048x1152 (![] : Fin 0 → Fin S8x2048x1152.rank)

variable [Facts]

def fn {F : FTy → Type} [FloatOps F] (main_arg0 : FVec F S8x2048x1152 .bf16) (main_arg1 : FVec F S8x2048x2880 .fp8e4m3) (main_arg2 : IVec S8x64x2880 8) (main_arg3 : FVec F S1152x2880 .fp8e4m3) (main_arg4 : IVec S36x2880 8) : IVec S8x2048x1152 1 :=
  let main_v0 : FVec F S8x2048x1152 .f32 := (extf .f32 · bitsLt_bf16_f32) main_arg0
  let main_v1 : FVec F S8x2048x1152 .f32 := Host.absf main_v0
  let main_cst : FVec F S_ .f32 := constant S_ .f32 0x7F7F0000#32
  let main_v2 : FVec F S8x2048x1152 .f32 := broadcastInDim S8x2048x1152 ![] bcast_S_S8x2048x1152 main_cst
  let main_v3 : IVec S8x2048x1152 1 := cmpf .ole main_v1 main_v2
  let main_cst_0 : FVec F S_ .f32 := constant S_ .f32 0x7F800000#32
  let main_v4 : FVec F S8x2048x1152 .f32 := broadcastInDim S8x2048x1152 ![] bcast_S_S8x2048x1152 main_cst_0
  let main_v5 : IVec S8x2048x1152 1 := cmpf .oeq main_v1 main_v4
  let main_v6 : IVec S8x2048x1152 1 := ori main_v3 main_v5
  main_v6
-- ==== Kernel.lean ====
abbrev S8x2048x1152 : Shape := ⟨3, ![8, 2048, 1152]⟩
abbrev S8x2048x2880 : Shape := ⟨3, ![8, 2048, 2880]⟩
abbrev S8x64x2880 : Shape := ⟨3, ![8, 64, 2880]⟩
abbrev S1152x2880 : Shape := ⟨2, ![1152, 2880]⟩
abbrev S36x2880 : Shape := ⟨2, ![36, 2880]⟩
abbrev S8x2048x36 : Shape := ⟨3, ![8, 2048, 36]⟩
abbrev S8x64x1152 : Shape := ⟨3, ![8, 64, 1152]⟩
abbrev S1x512x1152 : Shape := ⟨3, ![1, 512, 1152]⟩
abbrev S1x512x2880 : Shape := ⟨3, ![1, 512, 2880]⟩
abbrev S1x64x2880 : Shape := ⟨3, ![1, 64, 2880]⟩
abbrev S1x512x36 : Shape := ⟨3, ![1, 512, 36]⟩
abbrev S1x64x1152 : Shape := ⟨3, ![1, 64, 1152]⟩
abbrev S512x1152 : Shape := ⟨2, ![512, 1152]⟩
abbrev S1152x512 : Shape := ⟨2, ![1152, 512]⟩
abbrev S64x2880 : Shape := ⟨2, ![64, 2880]⟩
abbrev S16x4x1152 : Shape := ⟨3, ![16, 4, 1152]⟩
abbrev S1152x256 : Shape := ⟨2, ![1152, 256]⟩
abbrev S36x256 : Shape := ⟨2, ![36, 256]⟩
abbrev S36x1x256 : Shape := ⟨3, ![36, 1, 256]⟩
abbrev S36x16x256 : Shape := ⟨3, ![36, 16, 256]⟩
abbrev S576x256 : Shape := ⟨2, ![576, 256]⟩
abbrev S1152x64 : Shape := ⟨2, ![1152, 64]⟩
abbrev S36x64 : Shape := ⟨2, ![36, 64]⟩
abbrev S36x1x64 : Shape := ⟨3, ![36, 1, 64]⟩
abbrev S36x16x64 : Shape := ⟨3, ![36, 16, 64]⟩
abbrev S576x64 : Shape := ⟨2, ![576, 64]⟩
abbrev S1x64x256 : Shape := ⟨3, ![1, 64, 256]⟩
abbrev S64x256 : Shape := ⟨2, ![64, 256]⟩
abbrev S1x64x64 : Shape := ⟨3, ![1, 64, 64]⟩
abbrev S64x64 : Shape := ⟨2, ![64, 64]⟩
abbrev S1x128x128 : Shape := ⟨3, ![1, 128, 128]⟩
abbrev S128x128 : Shape := ⟨2, ![128, 128]⟩
abbrev S4x32x128 : Shape := ⟨3, ![4, 32, 128]⟩
abbrev S4x128 : Shape := ⟨2, ![4, 128]⟩
abbrev S255x4x128 : Shape := ⟨3, ![255, 4, 128]⟩
abbrev S1x4x128 : Shape := ⟨3, ![1, 4, 128]⟩
abbrev S4x1x128 : Shape := ⟨3, ![4, 1, 128]⟩
abbrev S36x128 : Shape := ⟨2, ![36, 128]⟩
abbrev S255x36x128 : Shape := ⟨3, ![255, 36, 128]⟩
abbrev S1x36x128 : Shape := ⟨3, ![1, 36, 128]⟩
abbrev S92x128 : Shape := ⟨2, ![92, 128]⟩
abbrev S128x36 : Shape := ⟨2, ![128, 36]⟩
abbrev S1x128x36 : Shape := ⟨3, ![1, 128, 36]⟩
abbrev S128x128x1 : Shape := ⟨3, ![128, 128, 1]⟩
abbrev S512x256 : Shape := ⟨2, ![512, 256]⟩
abbrev S1x512x256 : Shape := ⟨3, ![1, 512, 256]⟩
abbrev S16x256 : Shape := ⟨2, ![16, 256]⟩
abbrev S16x1x256 : Shape := ⟨3, ![16, 1, 256]⟩
abbrev S16x16x256 : Shape := ⟨3, ![16, 16, 256]⟩
abbrev S256x256 : Shape := ⟨2, ![256, 256]⟩
abbrev S512x64 : Shape := ⟨2, ![512, 64]⟩
abbrev S1x512x64 : Shape := ⟨3, ![1, 512, 64]⟩
abbrev S16x64 : Shape := ⟨2, ![16, 64]⟩
abbrev S16x1x64 : Shape := ⟨3, ![16, 1, 64]⟩
abbrev S16x16x64 : Shape := ⟨3, ![16, 16, 64]⟩
abbrev S256x64 : Shape := ⟨2, ![256, 64]⟩
abbrev S64x1152 : Shape := ⟨2, ![64, 1152]⟩

abbrev nBuf : Space → Nat
  | .hbm => 11
  | .vmem => 24
  | .smem => 0
  | _ => 0

abbrev bufTy : (tb : Table) → Fin (tcTables nBuf tb) → BufTy
  | .hbm, ⟨0, _⟩ => ⟨S8x2048x1152, .bf16⟩
  | .hbm, ⟨1, _⟩ => ⟨S8x2048x2880, .fp8e4m3⟩
  | .hbm, ⟨2, _⟩ => ⟨S8x64x2880, .i8⟩
  | .hbm, ⟨3, _⟩ => ⟨S1152x2880, .fp8e4m3⟩
  | .hbm, ⟨4, _⟩ => ⟨S36x2880, .i8⟩
  | .hbm, ⟨5, _⟩ => ⟨S8x2048x2880, .bf16⟩
  | .hbm, ⟨6, _⟩ => ⟨S1152x2880, .f32⟩
  | .hbm, ⟨7, _⟩ => ⟨S8x2048x1152, .fp8e4m3⟩
  | .hbm, ⟨8, _⟩ => ⟨S8x2048x36, .i8⟩
  | .hbm, ⟨9, _⟩ => ⟨S8x2048x1152, .fp8e4m3⟩
  | .hbm, ⟨10, _⟩ => ⟨S8x64x1152, .i8⟩
  | .local _ .vmem, ⟨0, _⟩ => ⟨S1x512x1152, .bf16⟩
  | .local _ .vmem, ⟨1, _⟩ => ⟨S1x512x1152, .bf16⟩
  | .local _ .vmem, ⟨2, _⟩ => ⟨S1x512x2880, .fp8e4m3⟩
  | .local _ .vmem, ⟨3, _⟩ => ⟨S1x512x2880, .fp8e4m3⟩
  | .local _ .vmem, ⟨4, _⟩ => ⟨S1x64x2880, .i8⟩
  | .local _ .vmem, ⟨5, _⟩ => ⟨S1x64x2880, .i8⟩
  | .local _ .vmem, ⟨6, _⟩ => ⟨S1152x2880, .fp8e4m3⟩
  | .local _ .vmem, ⟨7, _⟩ => ⟨S36x2880, .i8⟩
  | .local _ .vmem, ⟨8, _⟩ => ⟨S1x512x2880, .bf16⟩
  | .local _ .vmem, ⟨9, _⟩ => ⟨S1x512x2880, .bf16⟩
  | .local _ .vmem, ⟨10, _⟩ => ⟨S1152x2880, .f32⟩
  | .local _ .vmem, ⟨11, _⟩ => ⟨S1x512x1152, .fp8e4m3⟩
  | .local _ .vmem, ⟨12, _⟩ => ⟨S1x512x1152, .fp8e4m3⟩
  | .local _ .vmem, ⟨13, _⟩ => ⟨S1x512x36, .i8⟩
  | .local _ .vmem, ⟨14, _⟩ => ⟨S1x512x36, .i8⟩
  | .local _ .vmem, ⟨15, _⟩ => ⟨S1x512x1152, .fp8e4m3⟩
  | .local _ .vmem, ⟨16, _⟩ => ⟨S1x512x1152, .fp8e4m3⟩
  | .local _ .vmem, ⟨17, _⟩ => ⟨S1x64x1152, .i8⟩
  | .local _ .vmem, ⟨18, _⟩ => ⟨S1x64x1152, .i8⟩
  | .local _ .vmem, ⟨19, _⟩ => ⟨S1152x2880, .bf16⟩
  | .local _ .vmem, ⟨20, _⟩ => ⟨S512x1152, .bf16⟩
  | .local _ .vmem, ⟨21, _⟩ => ⟨S1152x512, .bf16⟩
  | .local _ .vmem, ⟨22, _⟩ => ⟨S64x2880, .i32⟩
  | .local _ .vmem, ⟨23, _⟩ => ⟨S16x4x1152, .i32⟩
  | _, _ => ⟨S8x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  v1
def k0_off1 (i : grid0.Coords) (c0_i32_10 : BitVec 32) : Fin 3 → Nat :=
  let arg0 : BitVec 32 := BitVec.ofNat 32 (i 0).val
  let c4_i32 : BitVec 32 := 4#32
  let v0 : BitVec 32 := Scalar.remsi arg0 c4_i32
  let c4_i32_3 : BitVec 32 := 4#32
  let v9 : BitVec 32 := Scalar.muli v0 c4_i32_3
  let v40 : BitVec 32 := Scalar.addi v9 c0_i32_10
  let v41 : Index := Scalar.indexCast v40
  let c0_11 : Index := 0#32
  let c0_12 : Index := 0#32
  ![v41.toNat, 0, 0]
def k0_off2 (i : grid0.Coords) (c0_i32_38 : BitVec 32) : Fin 3 → Nat :=
  let arg0 : BitVec 32 := BitVec.ofNat 32 (i 0).val
  let c4_i32 : BitVec 32 := 4#32
  let v0 : BitVec 32 := Scalar.remsi arg0 c4_i32
  let c4_i32_3 : BitVec 32 := 4#32
  let v9 : BitVec 32 := Scalar.muli v0 c4_i32_3
  let v116 : BitVec 32 := Scalar.addi v9 c0_i32_38
  let v117 : Index := Scalar.indexCast v116
  let c0_39 : Index := 0#32
  let c128_40 : Index := 128#32
  ![v117.toNat, 0, 128]
def k0_off3 (i : grid0.Coords) (c0_i32_66 : BitVec 32) : Fin 3 → Nat :=
  let arg0 : BitVec 32 := BitVec.ofNat 32 (i 0).val
  let c4_i32 : BitVec 32 := 4#32
  let v0 : BitVec 32 := Scalar.remsi arg0 c4_i32
  let c4_i32_3 : BitVec 32 := 4#32
  let v9 : BitVec 32 := Scalar.muli v0 c4_i32_3
  let v192 : BitVec 32 := Scalar.addi v9 c0_i32_66
  let v193 : Index := Scalar.indexCast v192
  let c0_67 : Index := 0#32
  let c256_68 : Index := 256#32
  ![v193.toNat, 0, 256]
def k0_off4 (i : grid0.Coords) (c0_i32_94 : BitVec 32) : Fin 3 → Nat :=
  let arg0 : BitVec 32 := BitVec.ofNat 32 (i 0).val
  let c4_i32 : BitVec 32 := 4#32
  let v0 : BitVec 32 := Scalar.remsi arg0 c4_i32
  let c4_i32_3 : BitVec 32 := 4#32
  let v9 : BitVec 32 := Scalar.muli v0 c4_i32_3
  let v268 : BitVec 32 := Scalar.addi v9 c0_i32_94
  let v269 : Index := Scalar.indexCast v268
  let c0_95 : Index := 0#32
  let c384_96 : Index := 384#32
  ![v269.toNat, 0, 384]
def k0_off5 (i : grid0.Coords) (c0_i32_122 : BitVec 32) : Fin 3 → Nat :=
  let arg0 : BitVec 32 := BitVec.ofNat 32 (i 0).val
  let c4_i32 : BitVec 32 := 4#32
  let v0 : BitVec 32 := Scalar.remsi arg0 c4_i32
  let c4_i32_3 : BitVec 32 := 4#32
  let v9 : BitVec 32 := Scalar.muli v0 c4_i32_3
  let v344 : BitVec 32 := Scalar.addi v9 c0_i32_122
  let v345 : Index := Scalar.indexCast v344
  let c0_123 : Index := 0#32
  let c512_124 : Index := 512#32
  ![v345.toNat, 0, 512]
def k0_off6 (i : grid0.Coords) (c0_i32_150 : BitVec 32) : Fin 3 → Nat :=
  let arg0 : BitVec 32 := BitVec.ofNat 32 (i 0).val
  let c4_i32 : BitVec 32 := 4#32
  let v0 : BitVec 32 := Scalar.remsi arg0 c4_i32
  let c4_i32_3 : BitVec 32 := 4#32
  let v9 : BitVec 32 := Scalar.muli v0 c4_i32_3
  let v420 : BitVec 32 := Scalar.addi v9 c0_i32_150
  let v421 : Index := Scalar.indexCast v420
  let c0_151 : Index := 0#32
  let c640_152 : Index := 640#32
  ![v421.toNat, 0, 640]
def k0_off7 (i : grid0.Coords) (c0_i32_178 : BitVec 32) : Fin 3 → Nat :=
  let arg0 : BitVec 32 := BitVec.ofNat 32 (i 0).val
  let c4_i32 : BitVec 32 := 4#32
  let v0 : BitVec 32 := Scalar.remsi arg0 c4_i32
  let c4_i32_3 : BitVec 32 := 4#32
  let v9 : BitVec 32 := Scalar.muli v0 c4_i32_3
  let v496 : BitVec 32 := Scalar.addi v9 c0_i32_178
  let v497 : Index := Scalar.indexCast v496
  let c0_179 : Index := 0#32
  let c768_180 : Index := 768#32
  ![v497.toNat, 0, 768]
def k0_off8 (i : grid0.Coords) (c0_i32_206 : BitVec 32) : Fin 3 → Nat :=
  let arg0 : BitVec 32 := BitVec.ofNat 32 (i 0).val
  let c4_i32 : BitVec 32 := 4#32
  let v0 : BitVec 32 := Scalar.remsi arg0 c4_i32
  let c4_i32_3 : BitVec 32 := 4#32
  let v9 : BitVec 32 := Scalar.muli v0 c4_i32_3
  let v572 : BitVec 32 := Scalar.addi v9 c0_i32_206
  let v573 : Index := Scalar.indexCast v572
  let c0_207 : Index := 0#32
  let c896_208 : Index := 896#32
  ![v573.toNat, 0, 896]
def k0_off9 (i : grid0.Coords) (c0_i32_234 : BitVec 32) : Fin 3 → Nat :=
  let arg0 : BitVec 32 := BitVec.ofNat 32 (i 0).val
  let c4_i32 : BitVec 32 := 4#32
  let v0 : BitVec 32 := Scalar.remsi arg0 c4_i32
  let c4_i32_3 : BitVec 32 := 4#32
  let v9 : BitVec 32 := Scalar.muli v0 c4_i32_3
  let v648 : BitVec 32 := Scalar.addi v9 c0_i32_234
  let v649 : Index := Scalar.indexCast v648
  let c0_235 : Index := 0#32
  let c1024_236 : Index := 1024#32
  ![v649.toNat, 0, 1024]
def k0_off10 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4098 : Index := Scalar.indexCast v2
  let c0_1634 : Index := 0#32
  ![v4098.toNat, 0]
def k0_off11 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4122 : Index := Scalar.indexCast v2
  let c256_1653 : Index := 256#32
  ![v4122.toNat, 256]
def k0_off12 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4146 : Index := Scalar.indexCast v2
  let c512_1672 : Index := 512#32
  ![v4146.toNat, 512]
def k0_off13 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4170 : Index := Scalar.indexCast v2
  let c768_1691 : Index := 768#32
  ![v4170.toNat, 768]
def k0_off14 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4194 : Index := Scalar.indexCast v2
  let c1024_1710 : Index := 1024#32
  ![v4194.toNat, 1024]
def k0_off15 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4218 : Index := Scalar.indexCast v2
  let c1280_1728 : Index := 1280#32
  ![v4218.toNat, 1280]
def k0_off16 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4242 : Index := Scalar.indexCast v2
  let c1536_1746 : Index := 1536#32
  ![v4242.toNat, 1536]
def k0_off17 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4266 : Index := Scalar.indexCast v2
  let c1792_1764 : Index := 1792#32
  ![v4266.toNat, 1792]
def k0_off18 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4290 : Index := Scalar.indexCast v2
  let c2048_1782 : Index := 2048#32
  ![v4290.toNat, 2048]
def k0_off19 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4314 : Index := Scalar.indexCast v2
  let c2304_1800 : Index := 2304#32
  ![v4314.toNat, 2304]
def k0_off20 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4338 : Index := Scalar.indexCast v2
  let c2560_1818 : Index := 2560#32
  ![v4338.toNat, 2560]
def k0_off21 (i : grid0.Coords) : Fin 2 → Nat :=
  let arg0 : BitVec 32 := BitVec.ofNat 32 (i 0).val
  let c4_i32 : BitVec 32 := 4#32
  let v0 : BitVec 32 := Scalar.remsi arg0 c4_i32
  let c16_i32 : BitVec 32 := 16#32
  let v1 : BitVec 32 := Scalar.muli v0 c16_i32
  let v2 : BitVec 32 := v1
  let v4362 : Index := Scalar.indexCast v2
  let c2816_1836 : Index := 2816#32
  ![v4362.toNat, 2816]
def k0_cond3 (i : grid0.Coords) : BitVec 1 :=
  let arg0 : BitVec 32 := BitVec.ofNat 32 (i 0).val
  let c4_i32 : BitVec 32 := 4#32
  let v0 : BitVec 32 := Scalar.remsi arg0 c4_i32
  let c3_i32_1844 : BitVec 32 := 3#32
  let v4377 : BitVec 1 := Scalar.cmpi .eq v0 c3_i32_1844
  let v4378 : BitVec 32 := Scalar.extui v4377
  let c0_i32_1845 : BitVec 32 := 0#32
  let v4379 : BitVec 1 := Scalar.cmpi .ne v4378 c0_i32_1845
  v4379

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1x512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2880 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2880 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1152x2880 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36x2880 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x2880 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1152x2880 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x1152 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x36 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1152 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x1152 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x2048x1152 : Shape := ⟨3, ![8, 2048, 1152]⟩
abbrev S8x2048x2880 : Shape := ⟨3, ![8, 2048, 2880]⟩
abbrev S8x64x2880 : Shape := ⟨3, ![8, 64, 2880]⟩
abbrev S1152x2880 : Shape := ⟨2, ![1152, 2880]⟩
abbrev S36x2880 : Shape := ⟨2, ![36, 2880]⟩
abbrev S8x2048x36 : Shape := ⟨3, ![8, 2048, 36]⟩
abbrev S8x64x1152 : Shape := ⟨3, ![8, 64, 1152]⟩
abbrev S8x2048x36x32 : Shape := ⟨4, ![8, 2048, 36, 32]⟩
abbrev S8x2048x36x1 : Shape := ⟨4, ![8, 2048, 36, 1]⟩
abbrev S8x64x32x1152 : Shape := ⟨4, ![8, 64, 32, 1152]⟩
abbrev S8x64x1x1152 : Shape := ⟨4, ![8, 64, 1, 1152]⟩
abbrev S36x32x2880 : Shape := ⟨3, ![36, 32, 2880]⟩
abbrev S36x1x2880 : Shape := ⟨3, ![36, 1, 2880]⟩
abbrev S8x64x32x2880 : Shape := ⟨4, ![8, 64, 32, 2880]⟩
abbrev S8x64x1x2880 : Shape := ⟨4, ![8, 64, 1, 2880]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x1152, .bf16⟩
  | .hbm, ⟨1, _⟩ => ⟨S8x2048x2880, .fp8e4m3⟩
  | .hbm, ⟨2, _⟩ => ⟨S8x64x2880, .i8⟩
  | .hbm, ⟨3, _⟩ => ⟨S1152x2880, .fp8e4m3⟩
  | .hbm, ⟨4, _⟩ => ⟨S36x2880, .i8⟩
  | .hbm, ⟨5, _⟩ => ⟨S8x2048x2880, .bf16⟩
  | .hbm, ⟨6, _⟩ => ⟨S1152x2880, .f32⟩
  | .hbm, ⟨7, _⟩ => ⟨S8x2048x1152, .fp8e4m3⟩
  | .hbm, ⟨8, _⟩ => ⟨S8x2048x36, .i8⟩
  | .hbm, ⟨9, _⟩ => ⟨S8x2048x1152, .fp8e4m3⟩
  | .hbm, ⟨10, _⟩ => ⟨S8x64x1152, .i8⟩
  | .local _ .vmem, ⟨0, _⟩ => ⟨S8x2048x1152, .bf16⟩
  | .local _ .vmem, ⟨1, _⟩ => ⟨S8x2048x2880, .fp8e4m3⟩
  | .local _ .vmem, ⟨2, _⟩ => ⟨S8x64x2880, .i8⟩
  | .local _ .vmem, ⟨3, _⟩ => ⟨S1152x2880, .fp8e4m3⟩
  | .local _ .vmem, ⟨4, _⟩ => ⟨S36x2880, .i8⟩
  | .local _ .vmem, ⟨5, _⟩ => ⟨S8x2048x2880, .bf16⟩
  | .local _ .vmem, ⟨6, _⟩ => ⟨S1152x2880, .f32⟩
  | .local _ .vmem, ⟨7, _⟩ => ⟨S8x2048x1152, .fp8e4m3⟩
  | .local _ .vmem, ⟨8, _⟩ => ⟨S8x2048x36, .i8⟩
  | .local _ .vmem, ⟨9, _⟩ => ⟨S8x2048x1152, .fp8e4m3⟩
  | .local _ .vmem, ⟨10, _⟩ => ⟨S8x64x1152, .i8⟩
  | _, _ => ⟨S8x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x2048x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x64x2880 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x2880 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36x2880 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x2880 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x2880 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048x1152 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2048x36 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2048x1152 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x64x1152 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.RefRun.lean ====
module

public import proofs.«01_k».proof.Proof.Gen.ReferenceIdeal.Frame
public import Idealize.ShloMosaic.Lib.Pipeline.Value

@[expose] public section

noncomputable section

/-! # The reference runs: each result as one function of its arguments -/

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8x2048x2880.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1152x2880.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8x2048x1152.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8x2048x36.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8x2048x1152.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S8x64x1152.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_4) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_5) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_v0_4) = (dats m 0 c).arrAt 9 cfg0.N
      ∧ r.2.mem ((c : Thread nD τ).loc main_v0_5) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S8x2048x1152.Idx) : ((cfg0.win 0).blk t).view.emb j = j := by
  obtain ⟨e0, e1, e2⟩ := idx_zero0 t
  funext a; apply Fin.ext
  match a with
  | ⟨0, _⟩ => show win0_0.index t (0 : Fin 3) * 8 + 1 * (j 0).val = (j 0).val; omega
  | ⟨1, _⟩ => show win0_0.index t (1 : Fin 3) * 2048 + 1 * (j 1).val = (j 1).val; omega
  | ⟨2, _⟩ => show win0_0.index t (2 : Fin 3) * 1152 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S8x2048x2880.Idx) : ((cfg0.win 1).blk t).view.emb j = j := by
  obtain ⟨e0, e1, e2⟩ := idx_zero1 t
  funext a; apply Fin.ext
  match a with
  | ⟨0, _⟩ => show win0_1.index t (0 : Fin 3) * 8 + 1 * (j 0).val = (j 0).val; omega
  | ⟨1, _⟩ => show win0_1.index t (1 : Fin 3) * 2048 + 1 * (j 1).val = (j 1).val; omega
  | ⟨2, _⟩ => show win0_1.index t (2 : Fin 3) * 2880 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S8x64x2880.Idx) : ((cfg0.win 2).blk t).view.emb j = j := by
  obtain ⟨e0, e1, e2⟩ := idx_zero2 t
  funext a; apply Fin.ext
  match a with
  | ⟨0, _⟩ => show win0_2.index t (0 : Fin 3) * 8 + 1 * (j 0).val = (j 0).val; omega
  | ⟨1, _⟩ => show win0_2.index t (1 : Fin 3) * 64 + 1 * (j 1).val = (j 1).val; omega
  | ⟨2, _⟩ => show win0_2.index t (2 : Fin 3) * 2880 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1152x2880.Idx) : ((cfg0.win 3).blk t).view.emb j = j := by
  obtain ⟨e0, e1⟩ := idx_zero3 t
  funext a; apply Fin.ext
  match a with
  | ⟨0, _⟩ => show win0_3.index t (0 : Fin 2) * 1152 + 1 * (j 0).val = (j 0).val; omega
  | ⟨1, _⟩ => show win0_3.index t (1 : Fin 2) * 2880 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S36x2880.Idx) : ((cfg0.win 4).blk t).view.emb j = j := by
  obtain ⟨e0, e1⟩ := idx_zero4 t
  funext a; apply Fin.ext
  match a with
  | ⟨0, _⟩ => show win0_4.index t (0 : Fin 2) * 36 + 1 * (j 0).val = (j 0).val; omega
  | ⟨1, _⟩ => show win0_4.index t (1 : Fin 2) * 2880 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S8x2048x2880.Idx) : ((cfg0.win 5).blk t).view.emb j = j := by
  obtain ⟨e0, e1, e2⟩ := idx_zero5 t
  funext a; apply Fin.ext
  match a with
  | ⟨0, _⟩ => show win0_5.index t (0 : Fin 3) * 8 + 1 * (j 0).val = (j 0).val; omega
  | ⟨1, _⟩ => show win0_5.index t (1 : Fin 3) * 2048 + 1 * (j 1).val = (j 1).val; omega
  | ⟨2, _⟩ => show win0_5.index t (2 : Fin 3) * 2880 + 1 * (j 2).val = (j 2).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1152x2880.Idx) : ((cfg0.win 6).blk t).view.emb j = j := by
  obtain ⟨e0, e1⟩ := idx_zero6 t
  funext a; apply Fin.ext
  match a with
  | ⟨0, _⟩ => show win0_6.index t (0 : Fin 2) * 1152 + 1 * (j 0).val = (j 0).val; omega
  | ⟨1, _⟩ => show win0_6.index t (1 : Fin 2) * 2880 + 1 * (j 1).val = (j 1).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S8x2048x1152.Idx) : ((cfg0.win 7).blk t).view.emb j = j := by
  obtain ⟨e0, e1, e2⟩ := idx_zero7 t
  funext a; apply Fin.ext
  match a with
  | ⟨0, _⟩ => show win0_7.index t (0 : Fin 3) * 8 + 1 * (j 0).val = (j 0).val; omega
  | ⟨1, _⟩ => show win0_7.index t (1 : Fin 3) * 2048 + 1 * (j 1).val = (j 1).val; omega
  | ⟨2, _⟩ => show win0_7.index t (2 : Fin 3) * 1152 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S8x2048x36.Idx) : ((cfg0.win 8).blk t).view.emb j = j := by
  obtain ⟨e0, e1, e2⟩ := idx_zero8 t
  funext a; apply Fin.ext
  match a with
  | ⟨0, _⟩ => show win0_8.index t (0 : Fin 3) * 8 + 1 * (j 0).val = (j 0).val; omega
  | ⟨1, _⟩ => show win0_8.index t (1 : Fin 3) * 2048 + 1 * (j 1).val = (j 1).val; omega
  | ⟨2, _⟩ => show win0_8.index t (2 : Fin 3) * 36 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S8x2048x1152.Idx) : ((cfg0.win 9).blk t).view.emb j = j := by
  obtain ⟨e0, e1, e2⟩ := idx_zero9 t
  funext a; apply Fin.ext
  match a with
  | ⟨0, _⟩ => show win0_9.index t (0 : Fin 3) * 8 + 1 * (j 0).val = (j 0).val; omega
  | ⟨1, _⟩ => show win0_9.index t (1 : Fin 3) * 2048 + 1 * (j 1).val = (j 1).val; omega
  | ⟨2, _⟩ => show win0_9.index t (2 : Fin 3) * 1152 + 1 * (j 2).val = (j 2).val; omega

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S8x64x1152.Idx) : ((cfg0.win 10).blk t).view.emb j = j := by
  obtain ⟨e0, e1, e2⟩ := idx_zero10 t
  funext a; apply Fin.ext
  match a with
  | ⟨0, _⟩ => show win0_10.index t (0 : Fin 3) * 8 + 1 * (j 0).val = (j 0).val; omega
  | ⟨1, _⟩ => show win0_10.index t (1 : Fin 3) * 64 + 1 * (j 1).val = (j 1).val; omega
  | ⟨2, _⟩ => show win0_10.index t (2 : Fin 3) * 1152 + 1 * (j 2).val = (j 2).val; omega

/-! ### Output window 5: the array after the run -/

/-- What the window's array ends holding: `out0_5` applied to the argument arrays in place of the input blocks (a value that the
    frame states apart, `kK_payN a…`, keeps its loads inside its own definition). -/
abbrev G5 (a0 : Vec F S8x2048x1152 .bf16) (a1 : Vec F S8x2048x2880 .fp8e4m3) (a2 : Vec F S8x64x2880 .i8) (a3 : Vec F S1152x2880 .fp8e4m3) (a4 : Vec F S36x2880 .i8) : Vec F S8x2048x2880 .bf16 :=
  k0_pay20 (k0_pay15 (k0_pay25 a0 a1 a2 a3 a4) (k0_pay26 a0 a1 a2 a3 a4)) (k0_pay16 a3) (k0_pay17 a4) (k0_pay18 a4) (k0_pay19 a4) 127#32

/-- A load of the whole of a block reads the block, and the one store through the whole rectangle leaves its payload. -/
theorem out5_eq (a0 : Vec F S8x2048x1152 .bf16) (a1 : Vec F S8x2048x2880 .fp8e4m3) (a2 : Vec F S8x64x2880 .i8) (a3 : Vec F S1152x2880 .fp8e4m3) (a4 : Vec F S36x2880 .i8) : out0_5 (F := F) a0 a1 a2 a3 a4 = G5 a0 a1 a2 a3 a4 := by
  unfold out0_5
  rw [View.canon_unit_zero hz5, View.ld_unit_zero (S := S1152x2880) hz3 _ a3, View.ld_unit_zero (S := S36x2880) hz4 _ a4]

/-- Cutting the point's block out of `X` and reading `X` through the block's view give the same. -/
theorem cut5_eq (t : Fin cfg0.N) (X : Vec F S8x2048x2880 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S8x2048x2880.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S8x2048x1152 .bf16) (a1 : Vec F S8x2048x2880 .fp8e4m3) (a2 : Vec F S8x64x2880 .i8) (a3 : Vec F S1152x2880 .fp8e4m3) (a4 : Vec F S36x2880 .i8) : Vec F S1152x2880 .f32 :=
  k0_pay1 (k0_pay21 (k0_pay27 a0 a1 a2 a3 a4) (k0_pay28 a0 a1 a2 a3 a4)) (k0_pay22 a1) (k0_pay23 a2)

/-- A load of the whole of a block reads the block, and the one store through the whole rectangle leaves its payload. -/
theorem out6_eq (a0 : Vec F S8x2048x1152 .bf16) (a1 : Vec F S8x2048x2880 .fp8e4m3) (a2 : Vec F S8x64x2880 .i8) (a3 : Vec F S1152x2880 .fp8e4m3) (a4 : Vec F S36x2880 .i8) : out0_6 (F := F) a0 a1 a2 a3 a4 = G6 a0 a1 a2 a3 a4 := by
  unfold out0_6
  rw [View.canon_unit_zero hz6, View.ld_unit_zero (S := S8x2048x2880) hz1 _ a1, View.ld_unit_zero (S := S8x64x2880) hz2 _ a2]

/-- Cutting the point's block out of `X` and reading `X` through the block's view give the same. -/
theorem cut6_eq (t : Fin cfg0.N) (X : Vec F S1152x2880 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S1152x2880.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S8x2048x1152 .bf16) (a1 : Vec F S8x2048x2880 .fp8e4m3) (a2 : Vec F S8x64x2880 .i8) (a3 : Vec F S1152x2880 .fp8e4m3) (a4 : Vec F S36x2880 .i8) : Vec F S8x2048x1152 .fp8e4m3 :=
  k0_pay25 a0 a1 a2 a3 a4

/-- The one store through the whole rectangle leaves its payload. -/
theorem out7_eq (a0 : Vec F S8x2048x1152 .bf16) (a1 : Vec F S8x2048x2880 .fp8e4m3) (a2 : Vec F S8x64x2880 .i8) (a3 : Vec F S1152x2880 .fp8e4m3) (a4 : Vec F S36x2880 .i8) : out0_7 (F := F) a0 a1 a2 a3 a4 = G7 a0 a1 a2 a3 a4 := by
  unfold out0_7
  rw [View.canon_unit_zero hz7]

/-- Cutting the point's block out of `X` and reading `X` through the block's view give the same. -/
theorem cut7_eq (t : Fin cfg0.N) (X : Vec F S8x2048x1152 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S8x2048x1152.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ### Output window 8: the array after the run -/

/-- What the window's array ends holding: `out0_8` applied to the argument arrays in place of the input blocks (a value that the
    frame states apart, `kK_payN a…`, keeps its loads inside its own definition). -/
abbrev G8 (a0 : Vec F S8x2048x1152 .bf16) (a1 : Vec F S8x2048x2880 .fp8e4m3) (a2 : Vec F S8x64x2880 .i8) (a3 : Vec F S1152x2880 .fp8e4m3) (a4 : Vec F S36x2880 .i8) : Vec F S8x2048x36 .i8 :=
  k0_pay26 a0 a1 a2 a3 a4

/-- The one store through the whole rectangle leaves its payload. -/
theorem out8_eq (a0 : Vec F S8x2048x1152 .bf16) (a1 : Vec F S8x2048x2880 .fp8e4m3) (a2 : Vec F S8x64x2880 .i8) (a3 : Vec F S1152x2880 .fp8e4m3) (a4 : Vec F S36x2880 .i8) : out0_8 (F := F) a0 a1 a2 a3 a4 = G8 a0 a1 a2 a3 a4 := by
  unfold out0_8
  rw [View.canon_unit_zero hz8]

/-- Cutting the point's block out of `X` and reading `X` through the block's view give the same. -/
theorem cut8_eq (t : Fin cfg0.N) (X : Vec F S8x2048x36 .i8) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4)) := by
  show (cfg0.win 8).cut (grid0.coords t) ((dats m 0 c).after 8 t) = _
  rw [after0_8, out8_eq, iblk0_eq, iblk1_eq, iblk2_eq, iblk3_eq, iblk4_eq]
  exact cut8_eq t _

/-- Every index of the array is in the point's block. -/
theorem covered8 (i : S8x2048x36.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 8 (G8 (V m c main_arg0) (V m c main_arg1) (V m c main_arg2) (V m c main_arg3) (V m c main_arg4)) (fun t _ => flushed8_eq m c t) covered8).trans (by rw [V_main_arg0, V_main_arg1, V_main_arg2, V_main_arg3, V_main_arg4])

/-! ### Output window 9: the array after the run -/

/-- What the window's array ends holding: `out0_9` applied to the argument arrays in place of the input blocks (a value that the
    frame states apart, `kK_payN a…`, keeps its loads inside its own definition). -/
abbrev G9 (a0 : Vec F S8x2048x1152 .bf16) (a1 : Vec F S8x2048x2880 .fp8e4m3) (a2 : Vec F S8x64x2880 .i8) (a3 : Vec F S1152x2880 .fp8e4m3) (a4 : Vec F S36x2880 .i8) : Vec F S8x2048x1152 .fp8e4m3 :=
  k0_pay27 a0 a1 a2 a3 a4

/-- The one store through the whole rectangle leaves its payload. -/
theorem out9_eq (a0 : Vec F S8x2048x1152 .bf16) (a1 : Vec F S8x2048x2880 .fp8e4m3) (a2 : Vec F S8x64x2880 .i8) (a3 : Vec F S1152x2880 .fp8e4m3) (a4 : Vec F S36x2880 .i8) : out0_9 (F := F) a0 a1 a2 a3 a4 = G9 a0 a1 a2 a3 a4 := by
  unfold out0_9
  rw [View.canon_unit_zero hz9]

/-- Cutting the point's block out of `X` and reading `X` through the block's view give the same. -/
theorem cut9_eq (t : Fin cfg0.N) (X : Vec F S8x2048x1152 .fp8e4m3) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4)) := by
  show (cfg0.win 9).cut (grid0.coords t) ((dats m 0 c).after 9 t) = _
  rw [after0_9, out9_eq, iblk0_eq, iblk1_eq, iblk2_eq, iblk3_eq, iblk4_eq]
  exact cut9_eq t _

/-- Every index of the array is in the point's block. -/
theorem covered9 (i : S8x2048x1152.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 9 (G9 (V m c main_arg0) (V m c main_arg1) (V m c main_arg2) (V m c main_arg3) (V m c main_arg4)) (fun t _ => flushed9_eq m c t) covered9).trans (by rw [V_main_arg0, V_main_arg1, V_main_arg2, V_main_arg3, V_main_arg4])

/-! ### Output window 10: the array after the run -/

/-- What the window's array ends holding: `out0_10` applied to the argument arrays in place of the input blocks (a value that the
    frame states apart, `kK_payN a…`, keeps its loads inside its own definition). -/
abbrev G10 (a0 : Vec F S8x2048x1152 .bf16) (a1 : Vec F S8x2048x2880 .fp8e4m3) (a2 : Vec F S8x64x2880 .i8) (a3 : Vec F S1152x2880 .fp8e4m3) (a4 : Vec F S36x2880 .i8) : Vec F S8x64x1152 .i8 :=
  k0_pay28 a0 a1 a2 a3 a4

/-- The one store through the whole rectangle leaves its payload. -/
theorem out10_eq (a0 : Vec F S8x2048x1152 .bf16) (a1 : Vec F S8x2048x2880 .fp8e4m3) (a2 : Vec F S8x64x2880 .i8) (a3 : Vec F S1152x2880 .fp8e4m3) (a4 : Vec F S36x2880 .i8) : out0_10 (F := F) a0 a1 a2 a3 a4 = G10 a0 a1 a2 a3 a4 := by
  unfold out0_10
  rw [View.canon_unit_zero hz10]

/-- Cutting the point's block out of `X` and reading `X` through the block's view give the same. -/
theorem cut10_eq (t : Fin cfg0.N) (X : Vec F S8x64x1152 .i8) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4)) := by
  show (cfg0.win 10).cut (grid0.coords t) ((dats m 0 c).after 10 t) = _
  rw [after0_10, out10_eq, iblk0_eq, iblk1_eq, iblk2_eq, iblk3_eq, iblk4_eq]
  exact cut10_eq t _

/-- Every index of the array is in the point's block. -/
theorem covered10 (i : S8x64x1152.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 10 (G10 (V m c main_arg0) (V m c main_arg1) (V m c main_arg2) (V m c main_arg3) (V m c main_arg4)) (fun t _ => flushed10_eq m c t) covered10).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = G8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_4) = G9 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_5) = G10 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      (post8 m r h c).trans (final8 m c),
      (post9 m r h c).trans (final9 m c),
      (post10 m r h c).trans (final10 m c),
      kept_main_arg0 m r h c,
      kept_main_arg1 m r h c,
      kept_main_arg2 m r h c,
      kept_main_arg3 m r h c,
      kept_main_arg4 m r h c⟩)
    (run_main m ρ)

end Cert.ReferenceIdeal.Run

end
-- ==== Proof.Spec.lean ====
module

public import Idealize.ShloMosaic.Lib.Pointwise
public import Idealize.ShloMosaic.PureOps.Ideal

@[expose] public section

set_option maxRecDepth 16384

noncomputable section

/-! # The mathematics of the quantiser and of the two products

Over plain functions of natural indices: `D R n` is the gradient at flat row `R < 16384` and column `n < 1152`. Each
group of 32 neighbours (down a column, or along a row) shares a power of two as its scale. -/

namespace Cert.Mx

open Idealize.ShloMosaic

/-- The largest magnitude of a group. -/
def amax (f : Fin 32 → EReal) : EReal :=
  Finset.fold max (Ideal.ofBits FTy.f32 4286578688#32) (fun k => FloatOps.absf (F := Ideal) (φ := .f32) (f k)) Finset.univ

/-- How many of the 255 powers of two from `2^-126` to infinity are at most `x`: the biased exponent of `x`. -/
def cnt (x : EReal) : BitVec 32 :=
  Finset.fold IntOp.addi (0#32) (fun b : Fin 255 => BitVec.setWidth 32 (BitVec.ofBool (decide
    (Ideal.ofBits FTy.f32 (IntOp.shli ArithUnit.vector (IntOp.addi (BitVec.ofNat 32 b.val) 1#32) 23#32) ≤ x)))) Finset.univ

/-- The exponent of a group whose largest magnitude is `a`. -/
def kE (a : EReal) : BitVec 32 :=
  Scalar.select (IntOp.ori (IntOp.cmpi CmpIPredicate.eq (cnt (a * Ideal.ofBits FTy.f32 991054117#32)) 0#32)
      (IntOp.cmpi CmpIPredicate.eq (cnt (a * Ideal.ofBits FTy.f32 991054117#32)) 255#32)) (0#32)
    (IntOp.subi (cnt (a * Ideal.ofBits FTy.f32 991054117#32)) 126#32)

/-- The scale of exponent `e`, -/
def kPow (e : BitVec 32) : EReal := Ideal.ofBits FTy.f32 (IntOp.shli ArithUnit.vector (IntOp.addi e 127#32) 23#32)
/-- its reciprocal, -/
def kInv (e : BitVec 32) : EReal := Ideal.ofBits FTy.f32 (IntOp.shli ArithUnit.vector (IntOp.addi (IntOp.subi (0#32) e) 127#32) 23#32)
/-- and the code of `x` under the reciprocal `s`. -/
def code (x s : EReal) : EReal := min (Ideal.ofBits FTy.f32 1138753536#32) (max (Ideal.ofBits FTy.f32 3286237184#32) (x * s))

/-- The scale that a stored byte stands for. -/
def sW (s : BitVec 8) : EReal := Ideal.ofBits FTy.bf16 (BitVec.setWidth 16 s <<< 7)
/-- The byte's scale twice over, as a word of two halves. -/
def word (s : BitVec 8) : BitVec 32 :=
  IntOp.ori (IntOp.shli ArithUnit.vector (BitVec.setWidth 32 s) 7#32) (IntOp.shli ArithUnit.vector (BitVec.setWidth 32 s) 23#32)

/-- The inputs: gradient, codes and scales of `x`, codes and scales of `w`. -/
structure Inp where
  D : ℕ → ℕ → EReal
  XC : ℕ → ℕ → EReal
  XS : ℕ → ℕ → BitVec 8
  WC : ℕ → ℕ → EReal
  WS : ℕ → ℕ → BitVec 8

variable (I : Inp)

/-- The exponent of column group `G` (rows `32 G …`), column `n`, -/
def cE (G n : ℕ) : BitVec 32 := kE (amax fun k => I.D (32 * G + k.val) n)
/-- and of row `R`, group `g` (columns `32 g …`). -/
def rE (R g : ℕ) : BitVec 32 := kE (amax fun k => I.D R (32 * g + k.val))
def cC (R n : ℕ) : EReal := code (I.D R n) (kInv (cE I (R / 32) n))
def rC (R n : ℕ) : EReal := code (I.D R n) (kInv (rE I R (n / 32)))
def cD (R n : ℕ) : EReal := cC I R n * kPow (cE I (R / 32) n)
def rD (R n : ℕ) : EReal := rC I R n * Ideal.div (Ideal.ofBits FTy.f32 1065353216#32) (kInv (rE I R (n / 32)))
def xD (R d : ℕ) : EReal := I.XC R d * sW (I.XS (R / 32) d)
def wD (n d : ℕ) : EReal := I.WC n d * sW (I.WS (n / 32) d)
/-- The exponents with the bias, as the kernel keeps them, -/
def cEW (G n : ℕ) : BitVec 32 := IntOp.addi (cE I G n) 127#32
/-- and as stored. -/
def cSc (G n : ℕ) : BitVec 8 := BitVec.setWidth 8 (cEW I G n)
def rSc (R g : ℕ) : BitVec 8 := BitVec.setWidth 8 (IntOp.addi (rE I R g) 127#32)
/-- The product with the weights, -/
def dx (R d : ℕ) : EReal := ∑ n : Fin 1152, rD I R n.val * wD I n.val d
/-- and the product with `x`, over the first `t` runs of 512 rows. -/
def dw : ℕ → ℕ → ℕ → EReal
  | 0, _, _ => 0
  | t + 1, n, d => dw t n d + ∑ k : Fin 512, cD I (512 * t + k.val) n * xD I (512 * t + k.val) d

end Cert.Mx

end
-- ==== Proof.Scalar.lean ====
module

public import proofs.«01_k».proof.Proof.Spec
public import Idealize.ShloMosaic.Lib.IndicatorCount
public import Mathlib.Analysis.SpecialFunctions.Log.Basic

@[expose] public section

set_option maxRecDepth 16384

noncomputable section

/-! # Powers of two, read from their bits and as powers

The kernel builds a power of two from its exponent field and finds an exponent by counting; the reference takes logarithms
and powers. Here the two are one function each. -/

namespace Cert.Mx

open Idealize.ShloMosaic

/-- The number with exponent field `b` and an empty fraction. -/
def thr (b : ℕ) : EReal := Ideal.ofBits FTy.f32 (IntOp.shli ArithUnit.vector (BitVec.ofNat 32 b) 23#32)

theorem fields : ∀ b : Fin 256, (IntOp.shli ArithUnit.vector (BitVec.ofNat 32 b.val) 23#32).extractLsb' 23 8 = BitVec.ofNat 8 b.val
    ∧ (IntOp.shli ArithUnit.vector (BitVec.ofNat 32 b.val) 23#32).extractLsb' 0 23 = 0#23
    ∧ (IntOp.shli ArithUnit.vector (BitVec.ofNat 32 b.val) 23#32).extractLsb' 31 1 = 0#1 := by decide

theorem thr_eq (b : ℕ) (h0 : 1 ≤ b) (h1 : b ≤ 254) : thr b = (((2 : ℝ) ^ ((b : ℤ) - 127) : ℝ) : EReal) := by
  obtain ⟨e1, e2, e3⟩ := fields ⟨b, by omega⟩
  show Ideal.ieee 8 23 _ = _
  unfold Ideal.ieee
  simp only at e1 e2 e3
  rw [e1, e2, e3]
  have hb : (BitVec.ofNat 8 b).toNat = b := by rw [BitVec.toNat_ofNat]; omega
  simp only [hb]
  rw [if_neg (by norm_num; omega), if_neg (by omega)]
  congr 1
  have : ((b : ℤ) - (2 ^ (8 - 1) - 1) - (23 : ℕ)) = ((b : ℤ) - 127) - 23 := by norm_num
  rw [this, zpow_sub₀ (by norm_num : (2 : ℝ) ≠ 0) ((b : ℤ) - 127) 23]
  norm_num
  ring

theorem thr_top : thr 255 = ⊤ := by
  unfold thr
  rw [show IntOp.shli ArithUnit.vector (BitVec.ofNat 32 255) 23#32 = 0x7F800000#32 from by decide]
  simp [Ideal.ofBits, Ideal.ieee]

/-- The byte's scale, read off its bits. -/
theorem fieldsW : ∀ b : BitVec 8, (BitVec.setWidth 16 b <<< 7).extractLsb' 7 8 = b
    ∧ (BitVec.setWidth 16 b <<< 7).extractLsb' 0 7 = 0#7 ∧ (BitVec.setWidth 16 b <<< 7).extractLsb' 15 1 = 0#1 := by decide

theorem sW_eq (s : BitVec 8) : sW s = if s.toNat = 255 then ⊤ else if s.toNat = 0 then 0 else (((2 : ℝ) ^ ((s.toNat : ℤ) - 127) : ℝ) : EReal) := by
  obtain ⟨e1, e2, e3⟩ := fieldsW s
  show Ideal.ieee 8 7 _ = _
  unfold Ideal.ieee
  rw [e1, e2, e3]
  have : ((s.toNat : ℤ) - (2 ^ (8 - 1) - 1) - (7 : ℕ)) = ((s.toNat : ℤ) - 127) - 7 := by norm_num
  simp only [this]
  rw [zpow_sub₀ (by norm_num : (2 : ℝ) ≠ 0) ((s.toNat : ℤ) - 127) 7]
  norm_num
  split
  · rfl
  · split
    · rfl
    · rw [← EReal.coe_mul]
      congr 1; ring

/-- `2 ^ e` within the range of f32, zero below it and infinity above it: the reference's power. -/
def ldex (e : BitVec 32) : EReal :=
  Scalar.select (IntOp.cmpi CmpIPredicate.slt e 4294967170#32) (Ideal.ofBits FTy.f32 0x00000000#32)
    (Scalar.select (IntOp.cmpi CmpIPredicate.sgt e 127#32) (Ideal.ofBits FTy.f32 0x7F800000#32) (Ideal.exp2 ((e.toInt : ℝ) : EReal)))

theorem sel_true {α : Type} (p : Prop) [Decidable p] (h : p) (a b : α) : Scalar.select (BitVec.ofBool (decide p)) a b = a := by
  rw [decide_eq_true h]; rfl
theorem sel_false {α : Type} (p : Prop) [Decidable p] (h : ¬ p) (a b : α) : Scalar.select (BitVec.ofBool (decide p)) a b = b := by
  rw [decide_eq_false h]; rfl

theorem toInt_ofInt (e : ℤ) (h0 : -1000 ≤ e) (h1 : e ≤ 1000) : (BitVec.ofInt 32 e).toInt = e := by
  rw [BitVec.toInt_ofInt]
  exact Int.bmod_eq_of_le (by norm_num; omega) (by norm_num; omega)

theorem slt_iff (a b : BitVec 32) : IntOp.cmpi CmpIPredicate.slt a b = BitVec.ofBool (decide (a.toInt < b.toInt)) := rfl
theorem sgt_iff (a b : BitVec 32) : IntOp.cmpi CmpIPredicate.sgt a b = BitVec.ofBool (decide (b.toInt < a.toInt)) := rfl

theorem ldex_eq (e : ℤ) (h0 : -126 ≤ e) (h1 : e ≤ 127) : ldex (BitVec.ofInt 32 e) = (((2 : ℝ) ^ e : ℝ) : EReal) := by
  have h := toInt_ofInt e (by omega) (by omega)
  unfold ldex
  rw [slt_iff, sgt_iff, h, sel_false _ (by show ¬ e < -126; omega), sel_false _ (by show ¬ 127 < e; omega), Ideal.exp2_coe]
  congr 1
  exact Real.rpow_intCast 2 e

theorem ldex_low : ldex (BitVec.ofInt 32 (-127)) = 0 := by
  unfold ldex
  rw [slt_iff, sel_true _ (by decide)]
  simp [Ideal.ofBits, Ideal.ieee]

theorem ldex_high : ldex (BitVec.ofInt 32 128) = ⊤ := by
  unfold ldex
  rw [slt_iff, sgt_iff, sel_false _ (by decide), sel_true _ (by decide)]
  simp [Ideal.ofBits, Ideal.ieee]

theorem ofInt_sub' (a b : ℤ) : BitVec.ofInt 32 (a - b) = BitVec.ofInt 32 a - BitVec.ofInt 32 b := by
  rw [Int.sub_eq_add_neg, BitVec.ofInt_add, BitVec.ofInt_neg, BitVec.sub_eq_add_neg]

/-- A stored byte's scale is the power of its unbiased exponent. -/
theorem sW_ldex (s : BitVec 8) : sW s = ldex (IntOp.subi (BitVec.setWidth 32 s) 127#32) := by
  have hs : s.toNat < 256 := s.isLt
  have h : IntOp.subi (BitVec.setWidth 32 s) 127#32 = BitVec.ofInt 32 ((s.toNat : ℤ) - 127) := by
    show BitVec.setWidth 32 s - 127#32 = _
    have h1 : BitVec.setWidth 32 s = BitVec.ofInt 32 (s.toNat : ℤ) := by
      apply BitVec.eq_of_toNat_eq; simp
    rw [h1, ofInt_sub']; rfl
  rw [h, sW_eq]
  split
  · rename_i h'; rw [h']; exact ldex_high.symm
  · split
    · rename_i h'; rw [h']; exact ldex_low.symm
    · exact (ldex_eq _ (by omega) (by omega)).symm

theorem bias (e : ℤ) (h0 : -126 ≤ e) (h1 : e ≤ 127) : IntOp.addi (BitVec.ofInt 32 e) 127#32 = BitVec.ofNat 32 (e + 127).toNat := by
  show BitVec.ofInt 32 e + 127#32 = _
  have h2 : BitVec.ofNat 32 (e + 127).toNat = BitVec.ofInt 32 (e + 127) := by
    rw [← BitVec.ofInt_natCast]; congr 1; omega
  rw [h2, BitVec.ofInt_add]; rfl

theorem kPow_eq (e : ℤ) (h0 : -126 ≤ e) (h1 : e ≤ 127) : kPow (BitVec.ofInt 32 e) = (((2 : ℝ) ^ e : ℝ) : EReal) := by
  unfold kPow
  rw [bias e h0 h1]
  refine (thr_eq _ (by omega) (by omega)).trans ?_
  congr 3; omega

theorem neg_ofInt (e : ℤ) : IntOp.subi (0#32) (BitVec.ofInt 32 e) = BitVec.ofInt 32 (-e) := by
  show 0#32 - BitVec.ofInt 32 e = _
  rw [BitVec.ofInt_neg, BitVec.zero_sub]

theorem kInv_eq (e : ℤ) (h0 : -126 ≤ -e) (h1 : -e ≤ 127) : kInv (BitVec.ofInt 32 e) = (((2 : ℝ) ^ (-e) : ℝ) : EReal) := by
  unfold kInv
  rw [neg_ofInt]
  exact kPow_eq (-e) h0 h1

/-- The exponent is the sum of the thresholds that the number reaches. -/
theorem cnt_of (x : EReal) (K : ℕ) (hK : K ≤ 255) (h : ∀ b : ℕ, b < 255 → (thr (b + 1) ≤ x ↔ b < K)) : cnt x = BitVec.ofNat 32 K := by
  unfold cnt
  refine (IndicatorCount.fold_addi_setWidth_eq_card (fun b : Fin 255 => BitVec.ofBool (decide
    (Ideal.ofBits FTy.f32 (IntOp.shli ArithUnit.vector (IntOp.addi (BitVec.ofNat 32 b.val) 1#32) 23#32) ≤ x))) Finset.univ).trans ?_
  congr 1
  have h2 : ∀ b : Fin 255, (BitVec.ofBool (decide
      (Ideal.ofBits FTy.f32 (IntOp.shli ArithUnit.vector (IntOp.addi (BitVec.ofNat 32 b.val) 1#32) 23#32) ≤ x)) = 1#1) ↔ b.val < K := by
    intro b
    rw [← h b.val b.isLt]
    have : IntOp.addi (BitVec.ofNat 32 b.val) 1#32 = BitVec.ofNat 32 (b.val + 1) := (BitVec.ofNat_add b.val 1).symm
    rw [this]
    show BitVec.ofBool (decide (thr (b.val + 1) ≤ x)) = 1#1 ↔ _
    by_cases h : thr (b.val + 1) ≤ x <;> simp [h]
  simp only [h2]
  rw [Fin.card_filter_val_lt, min_eq_right hK]

theorem c448 : ∃ c : ℝ, 0 < c ∧ c < 2 ^ (-8 : ℤ) ∧ Ideal.ofBits FTy.f32 991054117#32 = (c : EReal) := by
  refine ⟨9586981 * 2 ^ (-32 : ℤ), by positivity, by norm_num, ?_⟩
  simp [Ideal.ofBits, Ideal.ieee, -EReal.coe_mul]

/-- The reference's exponent of a group. -/
def eR (x : EReal) : BitVec 32 :=
  Scalar.select (IntOp.andi (Ideal.cmp CmpFPredicate.oge x (Ideal.ofBits FTy.f32 0x00800000#32)) (Ideal.cmp CmpFPredicate.olt x (Ideal.ofBits FTy.f32 0x7F800000#32)))
    (IntOp.addi (Ideal.fptosi 32 (Ideal.liftRound Int.floor (Ideal.div (Ideal.log x) (Ideal.log (Ideal.ofBits FTy.f32 0x40000000#32))))) 1#32) 0#32

theorem lowest : Ideal.ofBits FTy.f32 0x00800000#32 = (((2 : ℝ) ^ (-126 : ℤ) : ℝ) : EReal) := thr_eq 1 (by omega) (by omega)
theorem two : Ideal.ofBits FTy.f32 0x40000000#32 = ((2 : ℝ) : EReal) := by
  refine (thr_eq 128 (by omega) (by omega)).trans ?_
  norm_num
theorem infinity : Ideal.ofBits FTy.f32 0x7F800000#32 = ⊤ := thr_top

theorem select_ff {α : Type} (p q : BitVec 1) (h : p = 0#1 ∨ q = 0#1) (a b : α) : Scalar.select (IntOp.andi p q) a b = b := by
  have : IntOp.andi p q = 0#1 := by revert p q; decide
  rw [this]; rfl
theorem select_tt {α : Type} (a b : α) : Scalar.select (IntOp.andi (1#1) (1#1)) a b = a := rfl

/-- Both exponents of a group whose largest magnitude is `a`, and their range. -/
theorem exps (a : EReal) (h : a = ⊤ ∨ ∃ r : ℝ, 0 ≤ r ∧ r < 2 ^ (128 : ℤ) ∧ a = r) :
    ∃ e : ℤ, -125 ≤ e ∧ e ≤ 120 ∧ kE a = BitVec.ofInt 32 e ∧ eR (a * Ideal.ofBits FTy.f32 991054117#32) = BitVec.ofInt 32 e := by
  obtain ⟨c, c0, c1, hc⟩ := c448
  rcases h with rfl | ⟨r, r0, r1, rfl⟩
  · refine ⟨0, by omega, by omega, ?_, ?_⟩
    · have hx : (⊤ : EReal) * Ideal.ofBits FTy.f32 991054117#32 = ⊤ := by rw [hc]; exact EReal.top_mul_coe_of_pos c0
      have h1 : cnt ⊤ = BitVec.ofNat 32 255 := cnt_of ⊤ 255 le_rfl fun b hb => ⟨fun _ => hb, fun _ => le_top⟩
      unfold kE
      rw [hx, h1]; rfl
    · have hx : (⊤ : EReal) * Ideal.ofBits FTy.f32 991054117#32 = ⊤ := by rw [hc]; exact EReal.top_mul_coe_of_pos c0
      unfold eR
      rw [hx, infinity]
      refine (select_ff _ _ (Or.inr ?_) _ _).trans rfl
      simp [Ideal.cmp]
  · have hx : (r : EReal) * Ideal.ofBits FTy.f32 991054117#32 = ((r * c : ℝ) : EReal) := by rw [hc, EReal.coe_mul]
    have x0 : 0 ≤ r * c := by positivity
    have x1 : r * c < 2 ^ (120 : ℤ) := by
      have h1 : r * c ≤ r * 2 ^ (-8 : ℤ) := mul_le_mul_of_nonneg_left c1.le r0
      have h2 : r * 2 ^ (-8 : ℤ) < 2 ^ (128 : ℤ) * 2 ^ (-8 : ℤ) := mul_lt_mul_of_pos_right r1 (by positivity)
      have h3 : (2 : ℝ) ^ (128 : ℤ) * 2 ^ (-8 : ℤ) = 2 ^ (120 : ℤ) := by rw [← zpow_add₀ (by norm_num)]; norm_num
      linarith
    unfold kE eR
    rw [hx]
    generalize r * c = x at x0 x1
    have hthr : ∀ b : ℕ, b < 255 → ∀ (K : ℕ), (∀ j : ℤ, (2 : ℝ) ^ j ≤ x ↔ j < (K : ℤ) - 126) → K ≤ 254 → (thr (b + 1) ≤ (x : EReal) ↔ b < K) := by
      intro b hb K hj hK
      by_cases h : b = 254
      · subst h
        rw [thr_top]
        simp only [top_le_iff, EReal.coe_ne_top, false_iff]; omega
      · rw [thr_eq (b + 1) (by omega) (by omega), EReal.coe_le_coe_iff, hj]; push_cast; omega
    by_cases hlow : (2 : ℝ) ^ (-126 : ℤ) ≤ x
    · have xpos : 0 < x := lt_of_lt_of_le (by positivity) hlow
      have hl2 : 0 < Real.log 2 := Real.log_pos (by norm_num)
      have hl : ∀ j : ℤ, (2 : ℝ) ^ j ≤ x ↔ j ≤ ⌊Real.log x / Real.log 2⌋ := fun j => by
        rw [Int.le_floor, le_div_iff₀ hl2, ← Real.log_zpow]
        exact (Real.log_le_log_iff (by positivity) xpos).symm
      generalize hL : ⌊Real.log x / Real.log 2⌋ = L at hl
      have L0 : -126 ≤ L := (hl _).mp hlow
      have L1 : L < 120 := by
        by_contra h
        have := (hl 120).mpr (by omega)
        linarith
      have hcnt : cnt (x : EReal) = BitVec.ofNat 32 (L + 127).toNat :=
        cnt_of _ _ (by omega) fun b hb => hthr b hb _ (fun j => by rw [hl]; omega) (by omega)
      refine ⟨L + 1, by omega, by omega, ?_, ?_⟩
      · have n0 : ¬ (BitVec.ofNat 32 (L + 127).toNat = 0#32) := fun h => by
          have := congrArg BitVec.toNat h
          rw [BitVec.toNat_ofNat] at this
          simp at this; omega
        have n1 : ¬ (BitVec.ofNat 32 (L + 127).toNat = 255#32) := fun h => by
          have := congrArg BitVec.toNat h
          rw [BitVec.toNat_ofNat] at this
          simp at this; omega
        rw [hcnt]
        have e1 : IntOp.cmpi CmpIPredicate.eq (BitVec.ofNat 32 (L + 127).toNat) 0#32 = 0#1 := by
          show BitVec.ofBool (_ == _) = _
          rw [beq_eq_false_iff_ne.mpr n0]; rfl
        have e2 : IntOp.cmpi CmpIPredicate.eq (BitVec.ofNat 32 (L + 127).toNat) 255#32 = 0#1 := by
          show BitVec.ofBool (_ == _) = _
          rw [beq_eq_false_iff_ne.mpr n1]; rfl
        rw [e1, e2]
        show BitVec.ofNat 32 (L + 127).toNat - 126#32 = _
        have h2 : BitVec.ofNat 32 (L + 127).toNat = BitVec.ofInt 32 (L + 127) := by
          rw [← BitVec.ofInt_natCast]; congr 1; omega
        have h3 : (126#32 : BitVec 32) = BitVec.ofInt 32 126 := rfl
        rw [h2, h3, ← ofInt_sub']; congr 1; omega
      · rw [lowest, two, infinity]
        have e1 : Ideal.cmp CmpFPredicate.oge (x : EReal) (((2 : ℝ) ^ (-126 : ℤ) : ℝ) : EReal) = 1#1 := by
          show BitVec.ofBool (decide _) = _
          rw [decide_eq_true (EReal.coe_le_coe_iff.mpr hlow)]; rfl
        have e2 : Ideal.cmp CmpFPredicate.olt (x : EReal) ⊤ = 1#1 := by
          show BitVec.ofBool (decide _) = _
          rw [decide_eq_true (EReal.coe_lt_top x)]; rfl
        rw [e1, e2, select_tt]
        have hlog : Ideal.div (Ideal.log (x : EReal)) (Ideal.log ((2 : ℝ) : EReal)) = ((Real.log x / Real.log 2 : ℝ) : EReal) := by
          show Ideal.div (if x ≤ 0 then ⊥ else (Real.log x : EReal)) (if (2 : ℝ) ≤ 0 then ⊥ else (Real.log 2 : EReal)) = _
          rw [if_neg (by linarith), if_neg (by norm_num)]
          unfold Ideal.div
          rw [if_neg (by exact_mod_cast hl2.ne'), ← EReal.coe_inv, ← EReal.coe_mul]
          rfl
        rw [hlog]
        show IntOp.addi (Ideal.fptosi 32 (((⌊Real.log x / Real.log 2⌋ : ℤ) : ℝ) : EReal)) 1#32 = _
        rw [hL]
        have hf : Ideal.fptosi 32 (((L : ℤ) : ℝ) : EReal) = BitVec.ofInt 32 L := by
          show BitVec.ofInt 32 (max _ (min _ (if 0 ≤ ((L : ℤ) : ℝ) then ⌊((L : ℤ) : ℝ)⌋ else ⌈((L : ℤ) : ℝ)⌉))) = _
          rw [Int.floor_intCast, Int.ceil_intCast, ite_self]
          congr 1
          norm_num
          omega
        rw [hf]
        show BitVec.ofInt 32 L + 1#32 = _
        rw [BitVec.ofInt_add]; rfl
    · have hcnt : cnt (x : EReal) = BitVec.ofNat 32 0 :=
        cnt_of _ _ (by omega) fun b hb => by
          by_cases h : b = 254
          · subst h
            rw [thr_top]
            simp only [top_le_iff, EReal.coe_ne_top, false_iff]; omega
          · rw [thr_eq (b + 1) (by omega) (by omega), EReal.coe_le_coe_iff]
            refine ⟨fun h' => absurd (le_trans (zpow_le_zpow_right₀ (by norm_num) (by push_cast; omega)) h') hlow, fun h' => by omega⟩
      refine ⟨0, by omega, by omega, ?_, ?_⟩
      · rw [hcnt]; rfl
      · rw [lowest, infinity]
        refine (select_ff _ _ (Or.inl ?_) _ _).trans rfl
        show BitVec.ofBool (decide _) = _
        rw [decide_eq_false (fun h => hlow (EReal.coe_le_coe_iff.mp h))]; rfl

end Cert.Mx

end
-- ==== Proof.Groups.lean ====
module

public import proofs.«01_k».proof.Proof.Scalar

@[expose] public section

set_option maxRecDepth 16384

noncomputable section

/-! # One group: the kernel's scales are the reference's -/

namespace Cert.Mx

open Idealize.ShloMosaic

/-- A bf16 number: of magnitude at most the largest finite one, or infinite. -/
def Ok (x : EReal) : Prop :=
  FloatOps.absf (F := Ideal) (φ := .f32) x ≤ Ideal.ofBits FTy.f32 0x7F7F0000#32 ∨ FloatOps.absf (F := Ideal) (φ := .f32) x = ⊤

theorem largest : ∃ r : ℝ, r < 2 ^ (128 : ℤ) ∧ Ideal.ofBits FTy.f32 0x7F7F0000#32 = (r : EReal) := by
  refine ⟨255 * 2 ^ (120 : ℤ), by norm_num, ?_⟩
  simp [Ideal.ofBits, Ideal.ieee, -EReal.coe_mul]
  norm_num

theorem absf_nonneg (x : EReal) : 0 ≤ FloatOps.absf (F := Ideal) (φ := .f32) x := by
  show (0 : EReal) ≤ max x (-x)
  rcases le_total 0 x with h | h
  · exact le_max_of_le_left h
  · exact le_max_of_le_right (by rw [EReal.le_neg, neg_zero]; exact h)

/-- The largest magnitude of a group of bf16 numbers is infinite or a real below `2 ^ 128`. -/
theorem amax_ok (f : Fin 32 → EReal) (h : ∀ k, Ok (f k)) : amax f = ⊤ ∨ ∃ r : ℝ, 0 ≤ r ∧ r < 2 ^ (128 : ℤ) ∧ amax f = r := by
  by_cases ht : amax f = ⊤
  · exact Or.inl ht
  right
  obtain ⟨B, hB, eB⟩ := largest
  have hle : ∀ k, FloatOps.absf (F := Ideal) (φ := .f32) (f k) ≤ amax f := fun k =>
    Finset.le_fold_max _ |>.mpr (Or.inr ⟨k, Finset.mem_univ k, le_rfl⟩)
  have hfin : ∀ k, FloatOps.absf (F := Ideal) (φ := .f32) (f k) ≤ (B : EReal) := fun k => by
    rcases h k with h1 | h1
    · rwa [eB] at h1
    · exact absurd (top_le_iff.mp (h1 ▸ hle k)) ht
  have hbot : Ideal.ofBits FTy.f32 4286578688#32 = ⊥ := by simp [Ideal.ofBits, Ideal.ieee]
  have hup : amax f ≤ (B : EReal) := by
    unfold amax
    rw [Finset.fold_max_le]
    exact ⟨by rw [hbot]; exact bot_le, fun k _ => hfin k⟩
  have h0 : (0 : EReal) ≤ amax f := (absf_nonneg (f 0)).trans (hle 0)
  generalize amax f = a at *
  induction a with
  | bot => exact absurd h0 (by simp)
  | top => exact absurd rfl ht
  | coe r => exact ⟨r, EReal.coe_nonneg.mp h0, lt_of_le_of_lt (EReal.coe_le_coe_iff.mp hup) hB, rfl⟩

/-- A group of zeros has exponent zero already. -/
theorem eR_zero (x : EReal) :
    Scalar.select (Ideal.cmp CmpFPredicate.oeq x (Ideal.ofBits FTy.f32 0x00000000#32)) 0#32 (eR (x * Ideal.ofBits FTy.f32 991054117#32))
      = eR (x * Ideal.ofBits FTy.f32 991054117#32) := by
  have z : Ideal.ofBits FTy.f32 0x00000000#32 = 0 := by simp [Ideal.ofBits, Ideal.ieee]
  by_cases h : x = 0
  · have e : eR (x * Ideal.ofBits FTy.f32 991054117#32) = 0#32 := by
      rw [h, zero_mul, eR, lowest]
      refine select_ff _ _ (Or.inl ?_) _ _
      have : ¬ (((2 : ℝ) ^ (-126 : ℤ) : ℝ) : EReal) ≤ 0 := by
        rw [not_le]; exact EReal.coe_pos.mpr (by positivity)
      show BitVec.ofBool (decide _) = 0#1
      rw [decide_eq_false this]; rfl
    rw [e]
    show Scalar.select _ _ _ = _
    unfold Scalar.select
    split <;> rfl
  · show Scalar.select (BitVec.ofBool (decide _)) _ _ = _
    exact sel_false _ (by rw [z]; exact h) _ _

/-- An exponent that a group can have. -/
def Good (e : BitVec 32) : Prop := ∃ z : ℤ, -125 ≤ z ∧ z ≤ 120 ∧ e = BitVec.ofInt 32 z

theorem kE_good (f : Fin 32 → EReal) (h : ∀ k, Ok (f k)) : Good (kE (amax f)) := by
  obtain ⟨z, h0, h1, h2, _⟩ := exps (amax f) (amax_ok f h)
  exact ⟨z, h0, h1, h2⟩
theorem kE_eR (f : Fin 32 → EReal) (h : ∀ k, Ok (f k)) : eR (amax f * Ideal.ofBits FTy.f32 991054117#32) = kE (amax f) := by
  obtain ⟨z, _, _, h2, h3⟩ := exps (amax f) (amax_ok f h)
  rw [h2, h3]

variable {e : BitVec 32} (h : Good e)
include h

theorem inv_ldex : ldex (IntOp.subi (0#32) e) = kInv e := by
  obtain ⟨z, h0, h1, rfl⟩ := h
  rw [neg_ofInt, ldex_eq _ (by omega) (by omega), kInv_eq _ (by omega) (by omega)]

omit h in
theorem unbias (e : BitVec 32) : IntOp.subi (IntOp.addi e 127#32) 127#32 = e := by
  show e + 127#32 - 127#32 = e
  rw [BitVec.add_sub_cancel]

/-- A stored scale keeps the biased exponent. -/
theorem stored : BitVec.setWidth 32 (BitVec.setWidth 8 (IntOp.addi e 127#32)) = IntOp.addi e 127#32 := by
  obtain ⟨z, h0, h1, rfl⟩ := h
  rw [bias z (by omega) (by omega)]
  apply BitVec.eq_of_toNat_eq
  simp only [BitVec.toNat_setWidth, BitVec.toNat_ofNat]
  omega

theorem pow_ldex : ldex (IntOp.subi (IntOp.addi e 127#32) 127#32) = kPow e := by
  rw [unbias]
  obtain ⟨z, h0, h1, rfl⟩ := h
  rw [ldex_eq _ (by omega) (by omega), kPow_eq _ (by omega) (by omega)]

theorem recip_ldex : ldex (IntOp.subi (IntOp.addi e 127#32) 127#32) = Ideal.div (Ideal.ofBits FTy.f32 1065353216#32) (kInv e) := by
  rw [unbias]
  obtain ⟨z, h0, h1, rfl⟩ := h
  have one : Ideal.ofBits FTy.f32 1065353216#32 = 1 := by
    refine (thr_eq 127 (by omega) (by omega)).trans ?_
    norm_num
  rw [ldex_eq _ (by omega) (by omega), kInv_eq _ (by omega) (by omega), one]
  unfold Ideal.div
  have hp : ((2 : ℝ) ^ (-z)) ≠ 0 := by positivity
  rw [if_neg (by exact_mod_cast hp), one_mul, ← EReal.coe_inv, zpow_neg, inv_inv]

/-! ## The product with `x`, over all rows -/

omit h in
theorem dw_sum (I : Inp) (t n d : ℕ) : dw I t n d = ∑ R ∈ Finset.range (512 * t), cD I R n * xD I R d := by
  induction t with
  | zero => rfl
  | succ t ih =>
    rw [dw, ih, show 512 * (t + 1) = 512 * t + 512 by omega, Finset.sum_range_add]
    congr 1

omit h in
theorem dw_all (I : Inp) (n d : ℕ) : dw I 32 n d = ∑ R : Fin 16384, cD I R.val n * xD I R.val d := by
  rw [dw_sum]
  exact (Fin.sum_univ_eq_sum_range (fun R => cD I R n * xD I R d) 16384).symm

omit h in
theorem rows (g : ℕ → EReal) : ∑ b : Fin 8, ∑ i : Fin 2048, g (2048 * b.val + i.val) = ∑ R : Fin 16384, g R.val := by
  rw [← Fintype.sum_prod_type' fun (b : Fin 8) (i : Fin 2048) => g (2048 * b.val + i.val)]
  rw [← (finProdFinEquiv (m := 8) (n := 2048)).sum_comp fun R => g R.val]
  refine Finset.sum_congr rfl fun p _ => ?_
  show g _ = g (p.2.val + 2048 * p.1.val)
  rw [Nat.add_comm]

omit h in
/-- the same sequence by sequence. -/
theorem dw_rows (I : Inp) (n d : ℕ) :
    dw I 32 n d = ∑ b : Fin 8, ∑ i : Fin 2048, cD I (2048 * b.val + i.val) n * xD I (2048 * b.val + i.val) d := by
  rw [dw_all]
  exact (rows fun R => cD I R n * xD I R d).symm

end Cert.Mx

end
-- ==== Proof.Chunk.lean ====
module

public import proofs.«01_k».proof.Proof.Gen.KernelIdeal.Skeleton
public import Idealize.ShloMosaic.Lib.Pipeline.FrameBody

@[expose] public section

set_option maxRecDepth 16384

noncomputable section

/-! # What one grid point stores, chunk by chunk

A point walks its 512 x 1152 block of `dy` in 4 chunks of 128 rows by 9 columns of 128 lanes. The printed program
names the values of each of the 36 chunks apart; here is one function for all of them, and the lists of stores. -/

namespace Cert.KernelIdeal.Hand

open Cert.KernelIdeal.Gen Idealize.ShloMosaic

variable {F : FTy → Type} [FloatOps F]

/-- The load of chunk `(r, c)` of the block of `dy`. -/
def ldC (arg1 : Memref sig .tc .vmem S1x512x1152 .bf16) (harg1 : arg1.IsWhole) (x0 : Vec F S1x512x1152 .bf16)
    (r : Fin 4) (c : Fin 9) : Vec F S1x128x128 .bf16 :=
  View.readAt (Elt F) arg1.view (Rect.unit (s := S1x512x1152) ![0, 128 * r.val, 128 * c.val] S1x128x128.size
    (by have := r.isLt; have := c.isLt; intro a; fin_cases a <;> simp <;> omega)).toLoadRect (harg1.unread x0)

/-- The column exponents of a chunk: one for each group of 32 rows and each lane. -/
def colE (v : Vec F S1x128x128 .bf16) : IVec S4x128 32 := k0_pay39 v
/-- The same with the bias, as stored. -/
def colEW (v : Vec F S1x128x128 .bf16) : IVec S1x4x128 32 := k0_pay40 (colE v)
/-- The column-wise codes. -/
def colC (v : Vec F S1x128x128 .bf16) : FVec F S1x128x128 .fp8e4m3 := k0_pay42 (k0_pay38 v) (colE v)
/-- The column-wise codes times their scales, transposed. -/
def colD (v : Vec F S1x128x128 .bf16) : FVec F S128x128 .bf16 := k0_pay44 (k0_pay43 (k0_pay38 v) (colE v))
/-- The largest magnitude of each group of 32 lanes of a row, one row per lane. -/
def rowA (v : Vec F S1x128x128 .bf16) : FVec F S4x128 .f32 := k0_pay45 (k0_pay37 v)

/-- The row exponents of the 9 chunks of 128 rows: whether each is special, -/
def rowSp (v : Fin 9 → Vec F S1x128x128 .bf16) : IVec S36x128 1 :=
  k0_pay123 (rowA (v 0)) (rowA (v 1)) (rowA (v 2)) (rowA (v 3)) (rowA (v 4)) (rowA (v 5)) (rowA (v 6)) (rowA (v 7)) (k0_pay37 (v 8))
/-- and the exponent if it is not. -/
def rowEx (v : Fin 9 → Vec F S1x128x128 .bf16) : IVec S36x128 32 :=
  k0_pay124 (rowA (v 0)) (rowA (v 1)) (rowA (v 2)) (rowA (v 3)) (rowA (v 4)) (rowA (v 5)) (rowA (v 6)) (rowA (v 7)) (k0_pay37 (v 8))
/-- The row scales, as stored. -/
def rowS (v : Fin 9 → Vec F S1x128x128 .bf16) : IVec S1x128x36 8 := k0_pay126 (rowSp v) (rowEx v)
/-- The reciprocals of the row scales. -/
def rowInv (v : Fin 9 → Vec F S1x128x128 .bf16) : FVec F S128x128 .f32 := k0_pay127 (rowSp v) (rowEx v)
/-- Which of the reciprocals each lane of column `c` takes. -/
def laneIx (c : Fin 9) : IVec S128x128 32 :=
  let v760 : IVec S128x128 32 := addi (k0_pay131 k0_pay128 (k0_pay129) k0_pay130) (broadcast S128x128 (BitVec.ofNat 32 (4 * c.val)))
  let v765 : IVec S128x128 32 := select (cmpi .slt v760 (broadcast S128x128 0#32)) (addi v760 (broadcast S128x128 128#32)) v760
  shapeCast S128x128 (shapeCast S128x128x1 v765 shapeCasts_S128x128_S128x128x1) shapeCasts_S128x128x1_S128x128
/-- The reciprocals taken. -/
def rowG (v : Fin 9 → Vec F S1x128x128 .bf16) (c : Fin 9) : FVec F S128x128 .f32 := dynamicGather 1 (rowInv v) (laneIx c)
/-- The row-wise codes. -/
def rowC (v : Fin 9 → Vec F S1x128x128 .bf16) (c : Fin 9) : FVec F S1x128x128 .fp8e4m3 := k0_pay138 (rowG v c) (v c)
/-- The row-wise codes times their scales. -/
def rowD (v : Fin 9 → Vec F S1x128x128 .bf16) (c : Fin 9) : FVec F S128x128 .bf16 := k0_pay139 (rowG v c) (v c)

/-! ## The lists of stores, last first -/

abbrev rs : List (Fin 4) := [3, 2, 1, 0]
abbrev cs : List (Fin 9) := [8, 7, 6, 5, 4, 3, 2, 1, 0]

theorem inb_codes (r : Fin 4) (c : Fin 9) : ∀ a, (![0, 128 * r.val, 128 * c.val] : Fin 3 → ℕ) a + S1x128x128.size a ≤ S1x512x1152.size a := by
  have := r.isLt; have := c.isLt; intro a; fin_cases a <;> simp <;> omega
theorem inb_rs (r : Fin 4) : ∀ a, (![0, 128 * r.val, 0] : Fin 3 → ℕ) a + S1x128x36.size a ≤ S1x512x36.size a := by
  have := r.isLt; intro a; fin_cases a <;> simp <;> omega
theorem inb_row (r : Fin 4) (c : Fin 9) : ∀ a, (![128 * r.val, 128 * c.val] : Fin 2 → ℕ) a + S128x128.size a ≤ S512x1152.size a := by
  have := r.isLt; have := c.isLt; intro a; fin_cases a <;> simp <;> omega
theorem inb_col (r : Fin 4) (c : Fin 9) : ∀ a, (![128 * c.val, 128 * r.val] : Fin 2 → ℕ) a + S128x128.size a ≤ S1152x512.size a := by
  have := r.isLt; have := c.isLt; intro a; fin_cases a <;> simp <;> omega

/-- The row of the exponents' buffer that chunk `r` writes. -/
def eoff (i : grid0.Coords) (r : Fin 4) : ℕ := k0_off1 i (BitVec.ofNat 32 r.val) 0

theorem eoff_lt (i : grid0.Coords) (r : Fin 4) : eoff i r + 1 ≤ 16 := k0_off1_inb i r 0

theorem inb_ew (i : grid0.Coords) (r : Fin 4) (c : Fin 9) : ∀ a, (![eoff i r, 0, 128 * c.val] : Fin 3 → ℕ) a + S1x4x128.size a ≤ S16x4x1152.size a := by
  have := eoff_lt i r; have := c.isLt; intro a; fin_cases a <;> simp <;> omega

def Lrc (x : Fin 4 → Fin 9 → Vec F S1x128x128 .bf16) : List (View.Piece (Elt F) S1x512x1152 .fp8e4m3) :=
  rs.flatMap fun r => cs.map fun c => ⟨Rect.unit ![0, 128 * r.val, 128 * c.val] S1x128x128.size (inb_codes r c), rowC (x r) c⟩
def Lrs (x : Fin 4 → Fin 9 → Vec F S1x128x128 .bf16) : List (View.Piece (Elt F) S1x512x36 .i8) :=
  rs.map fun r => ⟨Rect.unit ![0, 128 * r.val, 0] S1x128x36.size (inb_rs r), rowS (x r)⟩
def Lcc (x : Fin 4 → Fin 9 → Vec F S1x128x128 .bf16) : List (View.Piece (Elt F) S1x512x1152 .fp8e4m3) :=
  rs.flatMap fun r => cs.map fun c => ⟨Rect.unit ![0, 128 * r.val, 128 * c.val] S1x128x128.size (inb_codes r c), colC (x r c)⟩
def Lrd (x : Fin 4 → Fin 9 → Vec F S1x128x128 .bf16) : List (View.Piece (Elt F) S512x1152 .bf16) :=
  rs.flatMap fun r => cs.map fun c => ⟨Rect.unit ![128 * r.val, 128 * c.val] S128x128.size (inb_row r c), rowD (x r) c⟩
def Lcd (x : Fin 4 → Fin 9 → Vec F S1x128x128 .bf16) : List (View.Piece (Elt F) S1152x512 .bf16) :=
  rs.flatMap fun r => cs.map fun c => ⟨Rect.unit ![128 * c.val, 128 * r.val] S128x128.size (inb_col r c), colD (x r c)⟩
def Lce (i : grid0.Coords) (x : Fin 4 → Fin 9 → Vec F S1x128x128 .bf16) : List (View.Piece (Elt F) S16x4x1152 .i32) :=
  rs.flatMap fun r => cs.map fun c => ⟨Rect.unit ![eoff i r, 0, 128 * c.val] S1x4x128.size (inb_ew i r c), colEW (x r c)⟩

/-! ## The products, tile by tile

The 2880 columns are walked in 11 tiles of 256 and one of 64. -/

abbrev ts : List (Fin 11) := [10, 9, 8, 7, 6, 5, 4, 3, 2, 1, 0]

theorem inb2 (n : ℕ) (j : Fin 11) : ∀ a, (![0, 256 * j.val] : Fin 2 → ℕ) a + (![n, 256] : Fin 2 → ℕ) a ≤ (![n, 2880] : Fin 2 → ℕ) a := by
  have := j.isLt; intro a; fin_cases a <;> simp <;> omega
theorem inb2' (n : ℕ) : ∀ a, (![0, 2816] : Fin 2 → ℕ) a + (![n, 64] : Fin 2 → ℕ) a ≤ (![n, 2880] : Fin 2 → ℕ) a := by
  intro a; fin_cases a <;> simp
theorem inb3 (n : ℕ) (j : Fin 11) : ∀ a, (![0, 0, 256 * j.val] : Fin 3 → ℕ) a + (![1, n, 256] : Fin 3 → ℕ) a ≤ (![1, n, 2880] : Fin 3 → ℕ) a := by
  have := j.isLt; intro a; fin_cases a <;> simp <;> omega
theorem inb3' (n : ℕ) : ∀ a, (![0, 0, 2816] : Fin 3 → ℕ) a + (![1, n, 64] : Fin 3 → ℕ) a ≤ (![1, n, 2880] : Fin 3 → ℕ) a := by
  intro a; fin_cases a <;> simp

/-- Tile `j` of a matrix of 2880 columns, -/
abbrev R2 (n : ℕ) (j : Fin 11) : Rect (⟨2, ![n, 2880]⟩ : Shape) := Rect.unit ![0, 256 * j.val] ![n, 256] (inb2 n j)
/-- and the last tile. -/
abbrev R2' (n : ℕ) : Rect (⟨2, ![n, 2880]⟩ : Shape) := Rect.unit ![0, 2816] ![n, 64] (inb2' n)
abbrev R3 (n : ℕ) (j : Fin 11) : Rect (⟨3, ![1, n, 2880]⟩ : Shape) := Rect.unit ![0, 0, 256 * j.val] ![1, n, 256] (inb3 n j)
abbrev R3' (n : ℕ) : Rect (⟨3, ![1, n, 2880]⟩ : Shape) := Rect.unit ![0, 0, 2816] ![1, n, 64] (inb3' n)

/-- The first of the 16 groups of rows of the scale words that the point reads. -/
def woff (i : grid0.Coords) : ℕ := k0_off10 i 0

theorem woff_le (i : grid0.Coords) : woff i + 16 ≤ 64 := k0_off10_inb i 0

theorem inbW (i : grid0.Coords) (j : Fin 11) : ∀ a, (![woff i, 256 * j.val] : Fin 2 → ℕ) a + S16x256.size a ≤ S64x2880.size a := by
  have := woff_le i; have := j.isLt; intro a; fin_cases a <;> simp <;> omega
theorem inbW' (i : grid0.Coords) : ∀ a, (![woff i, 2816] : Fin 2 → ℕ) a + S16x64.size a ≤ S64x2880.size a := by
  have := woff_le i; intro a; fin_cases a <;> simp <;> omega

abbrev RW (i : grid0.Coords) (j : Fin 11) : Rect S64x2880 := Rect.unit ![woff i, 256 * j.val] S16x256.size (inbW i j)
abbrev RW' (i : grid0.Coords) : Rect S64x2880 := Rect.unit ![woff i, 2816] S16x64.size (inbW' i)

/-- A tile of `dx`, -/
def dxT (a : Vec F S512x1152 .bf16) (w : Vec F S1152x256 .bf16) : FVec F S1x512x256 .bf16 := k0_pay620 a w
def dxT' (a : Vec F S512x1152 .bf16) (w : Vec F S1152x64 .bf16) : FVec F S1x512x64 .bf16 := k0_pay1 (k0_pay622 a w)
/-- a tile of `dw`: what it held plus the point's product, -/
def dwT (x : Vec F S1x512x256 .fp8e4m3) (w : Vec F S16x256 .i32) (p : Vec F S1152x256 .f32) (d : Vec F S1152x512 .bf16) : FVec F S1152x256 .f32 := k0_pay615 x w p d
def dwT' (x : Vec F S1x512x64 .fp8e4m3) (w : Vec F S16x64 .i32) (p : Vec F S1152x64 .f32) (d : Vec F S1152x512 .bf16) : FVec F S1152x64 .f32 := k0_pay2 x w p d
/-- a tile of the weights, widened, -/
def wT (q : Vec F S1152x256 .fp8e4m3) (s : Vec F S36x256 .i8) : FVec F S1152x256 .bf16 := k0_pay5 q s
def wT' (q : Vec F S1152x64 .fp8e4m3) (s : Vec F S36x64 .i8) : FVec F S1152x64 .bf16 := k0_pay33 q s
/-- a tile of the scale words of `x`. -/
def xT (s : Vec F S1x64x256 .i8) : IVec S64x256 32 := k0_pay35 s
def xT' (s : Vec F S1x64x64 .i8) : IVec S64x64 32 := k0_pay36 s

def Ldx (a : Vec F S512x1152 .bf16) (w : Fin 11 → Vec F S1152x256 .bf16) (w' : Vec F S1152x64 .bf16) : List (View.Piece (Elt F) S1x512x2880 .bf16) :=
  ⟨R3' 512, dxT' a w'⟩ :: ts.map fun j => ⟨R3 512 j, dxT a (w j)⟩
def Ldw (x : Fin 11 → Vec F S1x512x256 .fp8e4m3) (x' : Vec F S1x512x64 .fp8e4m3) (w : Fin 11 → Vec F S16x256 .i32) (w' : Vec F S16x64 .i32)
    (p : Fin 11 → Vec F S1152x256 .f32) (p' : Vec F S1152x64 .f32) (d : Vec F S1152x512 .bf16) : List (View.Piece (Elt F) S1152x2880 .f32) :=
  ⟨R2' 1152, dwT' x' w' p' d⟩ :: ts.map fun j => ⟨R2 1152 j, dwT (x j) (w j) (p j) d⟩
/-- The stores into `dw` of the first point: zero, then each tile over what the stores before it left. -/
def LdwA (arg7 : Memref sig .tc .vmem S1152x2880 .f32) (x : Fin 11 → Vec F S1x512x256 .fp8e4m3) (w : Fin 11 → Vec F S16x256 .i32)
    (d : Vec F S1152x512 .bf16) : (j : ℕ) → j ≤ 11 → List (View.Piece (Elt F) S1152x2880 .f32)
  | 0, _ => [⟨Rect.unit ![0, 0] S1152x2880.size inb_S1152x2880_S1152x2880_0_0, k0_pay4⟩]
  | j + 1, h => ⟨R2 1152 ⟨j, h⟩, dwT (x ⟨j, h⟩) (w ⟨j, h⟩) (arg7.view.readCov (LdwA arg7 x w d j (by omega)) (R2 1152 ⟨j, h⟩).toLoadRect) d⟩
      :: LdwA arg7 x w d j (by omega)
def Lw (q : Fin 11 → Vec F S1152x256 .fp8e4m3) (q' : Vec F S1152x64 .fp8e4m3) (s : Fin 11 → Vec F S36x256 .i8) (s' : Vec F S36x64 .i8) : List (View.Piece (Elt F) S1152x2880 .bf16) :=
  ⟨R2' 1152, wT' q' s'⟩ :: ts.map fun j => ⟨R2 1152 j, wT (q j) (s j)⟩
def Lx (s : Fin 11 → Vec F S1x64x256 .i8) (s' : Vec F S1x64x64 .i8) : List (View.Piece (Elt F) S64x2880 .i32) :=
  ⟨R2' 64, xT' s'⟩ :: ts.map fun j => ⟨R2 64 j, xT (s j)⟩

abbrev Rrd : Rect S512x1152 := Rect.unit ![0, 0] S512x1152.size inb_S512x1152_S512x1152_0_0
abbrev Rcd : Rect S1152x512 := Rect.unit ![0, 0] S1152x512.size inb_S1152x512_S1152x512_0_0
abbrev Rce : Rect S16x4x1152 := Rect.unit ![0, 0, 0] S16x4x1152.size inb_S16x4x1152_S16x4x1152_0_0_0

def Lcs (e : Vec F S16x4x1152 .i32) : List (View.Piece (Elt F) S1x64x1152 .i8) :=
  [⟨Rect.unit ![0, 0, 0] S1x64x1152.size inb_S1x64x1152_S1x64x1152_0_0_0, k0_pay3 e⟩]

end Cert.KernelIdeal.Hand

end
-- ==== Proof.Local.lean ====
module

public import proofs.«01_k».proof.Proof.Chunk
public import proofs.«01_k».proof.Proof.Spec
public import Idealize.ShloMosaic.Lib.BitcastPair

@[expose] public section

set_option maxRecDepth 16384

noncomputable section

/-! # What the values of one chunk are, at an index -/

namespace Cert.KernelIdeal.Hand

open Cert.KernelIdeal.Gen Idealize.ShloMosaic Cert.Mx

variable (I : Inp)

section Col

variable (v : Vec Ideal S1x128x128 .bf16) (q c : ℕ)
  (hv : ∀ (i l : Fin 128), v (ix3 0 i l) = I.D (128 * q + i.val) (128 * c + l.val))
include hv

theorem colE_at (g : Fin 4) (l : Fin 128) : colE v (ix2 g l) = cE I (4 * q + g.val) (128 * c + l.val) := by
  have e : (fun x_1 : Fin 32 => v (ix3 0 ⟨g.val * 32 + x_1.val, by omega⟩ l)) = fun k : Fin 32 => I.D (32 * (4 * q + g.val) + k.val) (128 * c + l.val) :=
    funext fun k => by rw [hv]; congr 1; show 128 * q + (g.val * 32 + k.val) = _; omega
  rw [cE, ← e]
  pointwise [colE, k0_pay39, k0_pay38, k0_pay37]
  rfl

theorem colEW_at (g : Fin 4) (l : Fin 128) : colEW v (ix3 0 g l) = cEW I (4 * q + g.val) (128 * c + l.val) := by
  rw [cEW, ← colE_at I v q c hv]
  unfold colEW; generalize colE v = e
  pointwise [k0_pay40]

theorem colC_at (i l : Fin 128) : colC v (ix3 0 i l) = cC I (128 * q + i.val) (128 * c + l.val) := by
  have h := colE_at I v q c hv ⟨i.val / 32, by omega⟩ l
  rw [show 4 * q + i.val / 32 = (128 * q + i.val) / 32 by omega] at h
  rw [cC, ← h, ← hv]
  unfold colC; generalize colE v = e
  pointwise [k0_pay42, k0_pay41, k0_pay38, k0_pay37]
  rfl

theorem colD_at (i l : Fin 128) : colD v (ix2 l i) = cD I (128 * q + i.val) (128 * c + l.val) := by
  have h := colE_at I v q c hv ⟨i.val / 32, by omega⟩ l
  rw [show 4 * q + i.val / 32 = (128 * q + i.val) / 32 by omega] at h
  rw [cD, cC, ← h, ← hv]
  unfold colD; generalize colE v = e
  pointwise [k0_pay44, k0_pay43, k0_pay41, k0_pay38, k0_pay37]
  rfl

theorem rowA_at (g : Fin 4) (i : Fin 128) : rowA v (ix2 g i) = amax fun k => I.D (128 * q + i.val) (32 * (4 * c + g.val) + k.val) := by
  have e : (fun x_1 : Fin 32 => v (ix3 0 i ⟨g.val * 32 + x_1.val, by omega⟩)) = fun k : Fin 32 => I.D (128 * q + i.val) (32 * (4 * c + g.val) + k.val) :=
    funext fun k => by rw [hv]; congr 1; show 128 * c + (g.val * 32 + k.val) = _; omega
  rw [← e]
  pointwise [rowA, k0_pay45, k0_pay37]
  rfl

end Col

/-- The largest magnitudes of the 36 groups of each of 128 rows, -/
def rowCat (a : Fin 8 → FVec Ideal S4x128 .f32) (w : FVec Ideal S128x128 .bf16) : FVec Ideal S36x128 .f32 :=
  concatenate S36x128 0 [⟨S4x128, a 0⟩, ⟨S4x128, a 1⟩, ⟨S4x128, a 2⟩, ⟨S4x128, a 3⟩, ⟨S4x128, a 4⟩, ⟨S4x128, a 5⟩, ⟨S4x128, a 6⟩, ⟨S4x128, a 7⟩, ⟨S4x128, k0_pay45 w⟩]
    concatenates_S4x128_S4x128_S4x128_S4x128_S4x128_S4x128_S4x128_S4x128_S4x128_S36x128_d0

/-- and how many thresholds each reaches. -/
def rowCnt (v694 : FVec Ideal S36x128 .f32) : IVec S36x128 32 :=
  have v697 : IVec S255x36x128 32 := iota .tc S255x36x128 32 [0] iota_S255x36x128_d0_w32
  have v702 : FVec Ideal S255x36x128 .f32 := bitcastToFloat .f32 (shli (addi v697 (broadcast S255x36x128 1#32)) (broadcast S255x36x128 23#32))
  have v704 : FVec Ideal S255x36x128 .f32 := broadcastTo S255x36x128 (shapeCast S1x36x128 (mulf v694 (broadcast S36x128 (Scalar.ofBits .f32 0x3B124925#32))) shapeCasts_S36x128_S1x36x128) broadcasts_S1x36x128_S255x36x128
  multiReductionI .add [0] S36x128 (extui 32 (cmpf .ole v702 v704) natLt_1_32) 0#32 reduces_S255x36x128_S36x128 rfl

theorem pay122_eq (a : Fin 8 → FVec Ideal S4x128 .f32) (w : FVec Ideal S128x128 .bf16) :
    k0_pay122 (a 0) (a 1) (a 2) (a 3) (a 4) (a 5) (a 6) (a 7) w = rowCnt (rowCat a w) := rfl

theorem rowCat_at (a : Fin 8 → FVec Ideal S4x128 .f32) (w : FVec Ideal S128x128 .bf16) (A : EReal) (g : Fin 36) (i : Fin 128)
    (hB : ∀ (c : Fin 8) (j : Fin 4), 4 * c.val + j.val = g.val → a c (ix2 j i) = A)
    (h8 : ∀ j : Fin 4, 4 * 8 + j.val = g.val → k0_pay45 w (ix2 j i) = A) : rowCat a w (ix2 g i) = A := by
  unfold rowCat
  generalize k0_pay45 w = b at *
  pointwise []
  by_cases h0 : g.val < 4
  · rw [dif_pos h0]; exact hB 0 ⟨g.val, h0⟩ (by show 4 * 0 + (g.val) = _; omega)
  rw [dif_neg h0]
  by_cases h1 : g.val - 4 < 4
  · rw [dif_pos h1]; exact hB 1 ⟨g.val - 4, h1⟩ (by show 4 * 1 + (g.val - 4) = _; omega)
  rw [dif_neg h1]
  by_cases h2 : g.val - 4 - 4 < 4
  · rw [dif_pos h2]; exact hB 2 ⟨g.val - 4 - 4, h2⟩ (by show 4 * 2 + (g.val - 4 - 4) = _; omega)
  rw [dif_neg h2]
  by_cases h3 : g.val - 4 - 4 - 4 < 4
  · rw [dif_pos h3]; exact hB 3 ⟨g.val - 4 - 4 - 4, h3⟩ (by show 4 * 3 + (g.val - 4 - 4 - 4) = _; omega)
  rw [dif_neg h3]
  by_cases h4 : g.val - 4 - 4 - 4 - 4 < 4
  · rw [dif_pos h4]; exact hB 4 ⟨g.val - 4 - 4 - 4 - 4, h4⟩ (by show 4 * 4 + (g.val - 4 - 4 - 4 - 4) = _; omega)
  rw [dif_neg h4]
  by_cases h5 : g.val - 4 - 4 - 4 - 4 - 4 < 4
  · rw [dif_pos h5]; exact hB 5 ⟨g.val - 4 - 4 - 4 - 4 - 4, h5⟩ (by show 4 * 5 + (g.val - 4 - 4 - 4 - 4 - 4) = _; omega)
  rw [dif_neg h5]
  by_cases h6 : g.val - 4 - 4 - 4 - 4 - 4 - 4 < 4
  · rw [dif_pos h6]; exact hB 6 ⟨g.val - 4 - 4 - 4 - 4 - 4 - 4, h6⟩ (by show 4 * 6 + (g.val - 4 - 4 - 4 - 4 - 4 - 4) = _; omega)
  rw [dif_neg h6]
  by_cases h7 : g.val - 4 - 4 - 4 - 4 - 4 - 4 - 4 < 4
  · rw [dif_pos h7]; exact hB 7 ⟨g.val - 4 - 4 - 4 - 4 - 4 - 4 - 4, h7⟩ (by show 4 * 7 + (g.val - 4 - 4 - 4 - 4 - 4 - 4 - 4) = _; omega)
  rw [dif_neg h7]
  exact h8 ⟨g.val - 4 - 4 - 4 - 4 - 4 - 4 - 4 - 4, by omega⟩ (by show 4 * 8 + (g.val - 4 - 4 - 4 - 4 - 4 - 4 - 4 - 4) = _; omega)

theorem rowCnt_at (x : FVec Ideal S36x128 .f32) (g : Fin 36) (i : Fin 128) :
    rowCnt x (ix2 g i) = cnt (x (ix2 g i) * Ideal.ofBits FTy.f32 991054117#32) := by
  pointwise [rowCnt]
  rfl

theorem pay122_at (a : Fin 8 → FVec Ideal S4x128 .f32) (w : FVec Ideal S128x128 .bf16) (A : EReal) (g : Fin 36) (i : Fin 128)
    (hB : ∀ (c : Fin 8) (j : Fin 4), 4 * c.val + j.val = g.val → a c (ix2 j i) = A)
    (h8 : ∀ j : Fin 4, 4 * 8 + j.val = g.val → k0_pay45 w (ix2 j i) = A) :
    k0_pay122 (a 0) (a 1) (a 2) (a 3) (a 4) (a 5) (a 6) (a 7) w (ix2 g i) = cnt (A * Ideal.ofBits FTy.f32 991054117#32) := by
  rw [pay122_eq, rowCnt_at, rowCat_at a w A g i hB h8]

theorem laneIx_at : ∀ (c : Fin 9) (i l : Fin 128), laneIx c (ix2 i l) = BitVec.ofNat 32 (4 * c.val + l.val / 32) := by
  intro c i l
  pointwise [laneIx, k0_pay131, k0_pay128, k0_pay129, k0_pay130]
  clear i
  revert c l
  decide +kernel

section Row

variable (v : Fin 9 → Vec Ideal S1x128x128 .bf16) (q : ℕ)
  (hv : ∀ (c : Fin 9) (i l : Fin 128), v c (ix3 0 i l) = I.D (128 * q + i.val) (128 * c.val + l.val))
include hv

theorem rowE_at (g : Fin 36) (i : Fin 128) :
    Scalar.select (rowSp v (ix2 g i)) (0#32) (rowEx v (ix2 g i)) = rE I (128 * q + i.val) g.val := by
  have hB : ∀ (c : Fin 9) (j : Fin 4), 4 * c.val + j.val = g.val →
      rowA (v c) (ix2 j i) = amax fun k => I.D (128 * q + i.val) (32 * g.val + k.val) := fun c j h => by
    rw [rowA_at I (v c) q c.val (hv c) j i, h]
  have h := pay122_at (fun c => rowA (v ⟨c.val, by omega⟩)) (k0_pay37 (v 8)) _ g i (fun c j h => hB ⟨c.val, by omega⟩ j h) (fun j h => hB 8 j h)
  rw [rE, kE, ← h]
  unfold rowSp rowEx
  pointwise [k0_pay123, k0_pay124]

theorem rowS_at (i : Fin 128) (g : Fin 36) : rowS v (ix3 0 i g) = rSc I (128 * q + i.val) g.val := by
  have h := rowE_at I v q hv g i
  rw [rSc, ← h]
  unfold rowS; generalize rowSp v = a; generalize rowEx v = b
  pointwise [k0_pay126, k0_pay125]

theorem rowInv_at (i l : Fin 128) (h : l.val < 36) : rowInv v (ix2 i l) = kInv (rE I (128 * q + i.val) l.val) := by
  have h' := rowE_at I v q hv ⟨l.val, h⟩ i
  rw [← h', kInv]
  unfold rowInv; generalize rowSp v = a; generalize rowEx v = b
  pointwise [k0_pay127, k0_pay125]
  rw [dif_pos h]

theorem rowG_at (c : Fin 9) (i l : Fin 128) : rowG v c (ix2 i l) = kInv (rE I (128 * q + i.val) (4 * c.val + l.val / 32)) := by
  unfold rowG
  have hb : ∀ l : Fin 128, l.val < 36 → rowInv v (ix2 i l) = kInv (rE I (128 * q + i.val) l.val) := fun l h => rowInv_at I v q hv i l h
  generalize rowInv v = b at *
  pointwise []
  have hl : (laneIx c (ix2 i l)).toNat % 128 = 4 * c.val + l.val / 32 := by
    rw [laneIx_at, BitVec.toNat_ofNat]; omega
  rw [hb _ (by show (laneIx c (ix2 i l)).toNat % 128 < 36; omega)]
  show kInv (rE I _ ((laneIx c (ix2 i l)).toNat % 128)) = _
  rw [hl]

theorem rowC_at (c : Fin 9) (i l : Fin 128) : rowC v c (ix3 0 i l) = rC I (128 * q + i.val) (128 * c.val + l.val) := by
  have h := rowG_at I v q hv c i l
  rw [show 4 * c.val + l.val / 32 = (128 * c.val + l.val) / 32 by omega] at h
  rw [rC, ← h, ← hv]
  unfold rowC; generalize rowG v c = e
  pointwise [k0_pay138, k0_pay137]
  rfl

theorem rowD_at (c : Fin 9) (i l : Fin 128) : rowD v c (ix2 i l) = rD I (128 * q + i.val) (128 * c.val + l.val) := by
  have h := rowG_at I v q hv c i l
  rw [show 4 * c.val + l.val / 32 = (128 * c.val + l.val) / 32 by omega] at h
  rw [rD, rC, ← h, ← hv]
  unfold rowD; generalize rowG v c = e
  pointwise [k0_pay139, k0_pay137]
  rfl

end Row

end Cert.KernelIdeal.Hand

end
-- ==== Proof.Tiles.lean ====
module

public import proofs.«01_k».proof.Proof.Chunk
public import proofs.«01_k».proof.Proof.Spec
public import Idealize.ShloMosaic.Lib.BitcastPair

@[expose] public section

set_option maxRecDepth 16384

noncomputable section

/-! # What the values of one tile of 256 (or 64) columns are, at an index -/

namespace Cert.KernelIdeal.Hand

open Cert.KernelIdeal.Gen Idealize.ShloMosaic Cert.Mx

/-- A 32-bit matrix read as halves: row `i` is half `i % 2` of row `i / 2`. -/
theorem half_at {A B n : ℕ} (x : (⟨2, ![A, n]⟩ : Shape).Idx → BitVec 32) (h : Shape.Bitcasts ⟨2, ![A, n]⟩ 32 ⟨2, ![B, n]⟩ 16)
    (i : Fin B) (j : Fin n) (hA : i.val / 2 < A) :
    bitcast ⟨2, ![B, n]⟩ 16 x h (ix2 i j) = (x (ix2 ⟨i.val / 2, hA⟩ j)).extractLsb' (16 * (i.val % 2)) 16 := by
  have hr : (⟨2, ![B, n]⟩ : Shape).row (ix2 i j) = i.val := rfl
  rw [bitcast_32_16]
  have e : ∀ hp, h.srcIdx (ix2 i j) ((⟨2, ![B, n]⟩ : Shape).row (ix2 i j) / 2) hp = ix2 ⟨i.val / 2, hA⟩ j := fun hp => by
    funext a
    refine Fin.ext ?_
    match a with
    | ⟨0, _⟩ => exact (h.srcIdx_row _ _ hp ⟨0, Nat.zero_lt_two⟩ rfl).trans (by rw [hr]; rfl)
    | ⟨1, _⟩ => exact (h.srcIdx_other _ _ hp ⟨1, Nat.one_lt_two⟩ (show ¬ (1 + 2 = 2) by decide)).trans rfl
  rw [e, hr]

/-- Both halves of a scale's word are the scale. -/
theorem word_half : ∀ (s : BitVec 8) (m : Fin 2), (word s).extractLsb' (16 * m.val) 16 = BitVec.setWidth 16 s <<< 7 := by
  decide +kernel

theorem word_half' (s : BitVec 8) (i : ℕ) : (word s).extractLsb' (16 * (i % 2)) 16 = BitVec.setWidth 16 s <<< 7 :=
  word_half s ⟨i % 2, by omega⟩

theorem xT_at (s : Vec Ideal S1x64x256 .i8) (g : Fin 64) (j : Fin 256) : xT (F := Ideal) s (ix2 g j) = word (s (ix3 0 g j)) := by
  pointwise [xT, k0_pay35]
  rfl
theorem xT'_at (s : Vec Ideal S1x64x64 .i8) (g : Fin 64) (j : Fin 64) : xT' (F := Ideal) s (ix2 g j) = word (s (ix3 0 g j)) := by
  pointwise [xT', k0_pay36]
  rfl

theorem wT_at (q : Vec Ideal S1152x256 .fp8e4m3) (s : Vec Ideal S36x256 .i8) (i : Fin 1152) (j : Fin 256) :
    wT q s (ix2 i j) = q (ix2 i j) * sW (s (ix2 ⟨i.val / 32, by omega⟩ j)) := by
  rw [sW, ← word_half' _ i.val]
  pointwise [wT, k0_pay5]
  rw [half_at (A := 576) (B := 1152) _ _ _ _ (by omega)]
  pointwise []
  simp only [Nat.div_div_eq_div_mul]
  rfl

theorem wT'_at (q : Vec Ideal S1152x64 .fp8e4m3) (s : Vec Ideal S36x64 .i8) (i : Fin 1152) (j : Fin 64) :
    wT' q s (ix2 i j) = q (ix2 i j) * sW (s (ix2 ⟨i.val / 32, by omega⟩ j)) := by
  rw [sW, ← word_half' _ i.val]
  pointwise [wT', k0_pay33]
  rw [half_at (A := 576) (B := 1152) _ _ _ _ (by omega)]
  pointwise []
  simp only [Nat.div_div_eq_div_mul]
  rfl

theorem dxT_at (a : Vec Ideal S512x1152 .bf16) (w : Vec Ideal S1152x256 .bf16) (i : Fin 512) (j : Fin 256) :
    dxT a w (ix3 0 i j) = ∑ k : Fin 1152, a (ix2 i k) * w (ix2 k j) := by
  pointwise [dxT, k0_pay620]
theorem dxT'_at (a : Vec Ideal S512x1152 .bf16) (w : Vec Ideal S1152x64 .bf16) (i : Fin 512) (j : Fin 64) :
    dxT' a w (ix3 0 i j) = ∑ k : Fin 1152, a (ix2 i k) * w (ix2 k j) := by
  pointwise [dxT', k0_pay1, k0_pay622]

theorem dwT_at (x : Vec Ideal S1x512x256 .fp8e4m3) (w : Vec Ideal S16x256 .i32) (p : Vec Ideal S1152x256 .f32) (d : Vec Ideal S1152x512 .bf16)
    (S : Fin 16 → Fin 256 → BitVec 8) (hw : ∀ g j, w (ix2 g j) = word (S g j)) (i : Fin 1152) (j : Fin 256) :
    dwT x w p d (ix2 i j) = p (ix2 i j) + ∑ k : Fin 512, d (ix2 i k) * (x (ix3 0 k j) * sW (S ⟨k.val / 32, by omega⟩ j)) := by
  pointwise [dwT, k0_pay615]
  refine congrArg (p (ix2 i j) + ·) (Finset.sum_congr rfl fun k _ => ?_)
  rw [sW, ← word_half' _ k.val, ← hw]
  rw [half_at (A := 256) (B := 512) _ _ _ _ (by omega)]
  pointwise []
  simp only [Nat.div_div_eq_div_mul]

theorem dwT'_at (x : Vec Ideal S1x512x64 .fp8e4m3) (w : Vec Ideal S16x64 .i32) (p : Vec Ideal S1152x64 .f32) (d : Vec Ideal S1152x512 .bf16)
    (S : Fin 16 → Fin 64 → BitVec 8) (hw : ∀ g j, w (ix2 g j) = word (S g j)) (i : Fin 1152) (j : Fin 64) :
    dwT' x w p d (ix2 i j) = p (ix2 i j) + ∑ k : Fin 512, d (ix2 i k) * (x (ix3 0 k j) * sW (S ⟨k.val / 32, by omega⟩ j)) := by
  pointwise [dwT', k0_pay2]
  refine congrArg (p (ix2 i j) + ·) (Finset.sum_congr rfl fun k _ => ?_)
  rw [sW, ← word_half' _ k.val, ← hw]
  rw [half_at (A := 256) (B := 512) _ _ _ _ (by omega)]
  pointwise []
  simp only [Nat.div_div_eq_div_mul]

end Cert.KernelIdeal.Hand

end
-- ==== Proof.PieceValues.lean ====
module

public import proofs.«01_k».proof.Proof.Local
public import proofs.«01_k».proof.Proof.Tiles
public import Idealize.ShloMosaic.Lib.Writes
public import Idealize.ShloMosaic.Lib.WholeRead

@[expose] public section

set_option maxRecDepth 16384

noncomputable section

/-! # What the lists of stores of one grid point leave -/

namespace Cert.KernelIdeal.Hand

open Cert.KernelIdeal.Gen Idealize.ShloMosaic Cert.Mx

/-- Every store of `L` stores `G` at its own place, -/
def Is {s : Shape} {e : EltTy} (L : List (View.Piece (Elt Ideal) s e)) (G : s.Idx → Elt Ideal e) : Prop :=
  ∀ p ∈ L, ∀ x : p.1.shape.Idx, p.2 x = G (p.1.emb x)
/-- and the stores of `L` leave no place out. -/
def Cov {s : Shape} {e : EltTy} (L : List (View.Piece (Elt Ideal) s e)) : Prop := ∀ y : s.Idx, ∃ p ∈ L, y ∈ p.1.set

theorem mem_unit {s : Shape} {off size : Fin s.rank → ℕ} (inb : ∀ a, off a + size a ≤ s.size a) {i : s.Idx}
    (h : ∀ a, off a ≤ (i a).val ∧ (i a).val < off a + size a) : i ∈ (Rect.unit off size inb).set := by
  rw [Rect.mem_set_unit]; exact h
theorem of_mem_unit {s : Shape} {off size : Fin s.rank → ℕ} (inb : ∀ a, off a + size a ≤ s.size a) {i : s.Idx}
    (h : i ∈ (Rect.unit off size inb).set) : ∀ a, off a ≤ (i a).val ∧ (i a).val < off a + size a := by
  rw [Rect.mem_set_unit] at h; exact h

section Reads
variable {sg : RefSig} {κ : Kind} {sp : Space} {s : Shape} {e : EltTy} (v : View sg κ sp s e)

theorem read_of {L : List (View.Piece (Elt Ideal) s e)} {G : s.Idx → Elt Ideal e} (h : Is L G) (hc : Cov L) (f : v.ty.Contents (Elt Ideal)) :
    v.read (Elt Ideal) (v.writes (Elt Ideal) f L) = G :=
  funext fun y => View.read_writes_apply_of_pieces v f G L h y (hc y)

theorem readCov_of {L : List (View.Piece (Elt Ideal) s e)} {G : s.Idx → Elt Ideal e} (h : Is L G) (hc : Cov L) (B : LoadRect s) :
    v.readCov L B = fun j => G (B.idx j) :=
  funext fun j => congrFun (read_of v h hc _) (B.idx j)

theorem readAt_of {L : List (View.Piece (Elt Ideal) s e)} {G : s.Idx → Elt Ideal e} (h : Is L G) (hc : Cov L) (f : v.ty.Contents (Elt Ideal)) (B : LoadRect s) :
    v.readAt (Elt Ideal) B (v.writes (Elt Ideal) f L) = fun j => G (B.idx j) :=
  funext fun j => congrFun (read_of v h hc _) (B.idx j)

end Reads

variable (I : Inp) (t : ℕ)

/-! ## The chunks -/

section Chunks
variable (x : Fin 4 → Fin 9 → Vec Ideal S1x128x128 .bf16)

def gRC : Vec Ideal S1x512x1152 .fp8e4m3 := fun y => rC I (512 * t + (y (1 : Fin 3)).val) (y (2 : Fin 3)).val
def gCC : Vec Ideal S1x512x1152 .fp8e4m3 := fun y => cC I (512 * t + (y (1 : Fin 3)).val) (y (2 : Fin 3)).val
def gRS : Vec Ideal S1x512x36 .i8 := fun y => rSc I (512 * t + (y (1 : Fin 3)).val) (y (2 : Fin 3)).val
def gRD : Vec Ideal S512x1152 .bf16 := fun y => rD I (512 * t + (y (0 : Fin 2)).val) (y (1 : Fin 2)).val
def gCD : Vec Ideal S1152x512 .bf16 := fun y => cD I (512 * t + (y (1 : Fin 2)).val) (y (0 : Fin 2)).val
def gCE : Vec Ideal S16x4x1152 .i32 := fun y => cEW I (64 * (t / 4) + 4 * (y (0 : Fin 3)).val + (y (1 : Fin 3)).val) (y (2 : Fin 3)).val

variable (hx : ∀ (r : Fin 4) (c : Fin 9) (i l : Fin 128), x r c (ix3 0 i l) = I.D (128 * (4 * t + r.val) + i.val) (128 * c.val + l.val))
include hx

theorem Lrc_is : Is (Lrc x) (gRC I t) := by
  intro p hp
  simp only [Lrc, List.mem_flatMap, List.mem_map] at hp
  obtain ⟨r, _, c, _, rfl⟩ := hp
  intro y
  obtain ⟨z, i, l, rfl⟩ : ∃ (z : Fin 1) (i : Fin 128) (l : Fin 128), y = ix3 z i l := ⟨y (0 : Fin 3), y (1 : Fin 3), y (2 : Fin 3), eq_ix3 y⟩
  obtain rfl : z = 0 := Subsingleton.elim _ _
  refine (rowC_at I (x r) (4 * t + r.val) (hx r) c i l).trans ?_
  show _ = rC I (512 * t + (128 * r.val + 1 * i.val)) (128 * c.val + 1 * l.val)
  congr 1 <;> omega

theorem Lcc_is : Is (Lcc x) (gCC I t) := by
  intro p hp
  simp only [Lcc, List.mem_flatMap, List.mem_map] at hp
  obtain ⟨r, _, c, _, rfl⟩ := hp
  intro y
  obtain ⟨z, i, l, rfl⟩ : ∃ (z : Fin 1) (i : Fin 128) (l : Fin 128), y = ix3 z i l := ⟨y (0 : Fin 3), y (1 : Fin 3), y (2 : Fin 3), eq_ix3 y⟩
  obtain rfl : z = 0 := Subsingleton.elim _ _
  refine (colC_at I (x r c) (4 * t + r.val) c.val (hx r c) i l).trans ?_
  show _ = cC I (512 * t + (128 * r.val + 1 * i.val)) (128 * c.val + 1 * l.val)
  congr 1 <;> omega

theorem Lrs_is : Is (Lrs x) (gRS I t) := by
  intro p hp
  simp only [Lrs, List.mem_map] at hp
  obtain ⟨r, _, rfl⟩ := hp
  intro y
  obtain ⟨z, i, l, rfl⟩ : ∃ (z : Fin 1) (i : Fin 128) (l : Fin 36), y = ix3 z i l := ⟨y (0 : Fin 3), y (1 : Fin 3), y (2 : Fin 3), eq_ix3 y⟩
  obtain rfl : z = 0 := Subsingleton.elim _ _
  refine (rowS_at I (x r) (4 * t + r.val) (hx r) i l).trans ?_
  show _ = rSc I (512 * t + (128 * r.val + 1 * i.val)) (0 + 1 * l.val)
  congr 1 <;> omega

theorem Lrd_is : Is (Lrd x) (gRD I t) := by
  intro p hp
  simp only [Lrd, List.mem_flatMap, List.mem_map] at hp
  obtain ⟨r, _, c, _, rfl⟩ := hp
  intro y
  obtain ⟨i, l, rfl⟩ : ∃ (i : Fin 128) (l : Fin 128), y = ix2 i l := ⟨y (0 : Fin 2), y (1 : Fin 2), eq_ix2 y⟩
  refine (rowD_at I (x r) (4 * t + r.val) (hx r) c i l).trans ?_
  show _ = rD I (512 * t + (128 * r.val + 1 * i.val)) (128 * c.val + 1 * l.val)
  congr 1 <;> omega

theorem Lcd_is : Is (Lcd x) (gCD I t) := by
  intro p hp
  simp only [Lcd, List.mem_flatMap, List.mem_map] at hp
  obtain ⟨r, _, c, _, rfl⟩ := hp
  intro y
  obtain ⟨l, i, rfl⟩ : ∃ (l : Fin 128) (i : Fin 128), y = ix2 l i := ⟨y (0 : Fin 2), y (1 : Fin 2), eq_ix2 y⟩
  refine (colD_at I (x r c) (4 * t + r.val) c.val (hx r c) i l).trans ?_
  show _ = cD I (512 * t + (128 * r.val + 1 * i.val)) (128 * c.val + 1 * l.val)
  congr 1 <;> omega

theorem Lce_is (i : grid0.Coords) (he : ∀ r, eoff i r = 4 * (t % 4) + r.val) : Is (Lce i x) (gCE I t) := by
  intro p hp
  simp only [Lce, List.mem_flatMap, List.mem_map] at hp
  obtain ⟨r, _, c, _, rfl⟩ := hp
  intro y
  obtain ⟨z, g, l, rfl⟩ : ∃ (z : Fin 1) (g : Fin 4) (l : Fin 128), y = ix3 z g l := ⟨y (0 : Fin 3), y (1 : Fin 3), y (2 : Fin 3), eq_ix3 y⟩
  obtain rfl : z = 0 := Subsingleton.elim _ _
  refine (colEW_at I (x r c) (4 * t + r.val) c.val (hx r c) g l).trans ?_
  show _ = cEW I (64 * (t / 4) + 4 * (eoff i r + 1 * 0) + (0 + 1 * g.val)) (128 * c.val + 1 * l.val)
  rw [he]
  congr 1 <;> omega

end Chunks

section Covers
variable (x : Fin 4 → Fin 9 → Vec Ideal S1x128x128 .bf16)

theorem mem_rs : ∀ r : Fin 4, r ∈ rs := by decide
theorem mem_cs : ∀ c : Fin 9, c ∈ cs := by decide
theorem mem_ts : ∀ c : Fin 11, c ∈ ts := by decide

theorem Lrc_cov : Cov (Lrc x) := by
  intro y
  have h1 : (y (1 : Fin 3)).val < 512 := (y (1 : Fin 3)).isLt
  have h2 : (y (2 : Fin 3)).val < 1152 := (y (2 : Fin 3)).isLt
  have h0 : (y (0 : Fin 3)).val < 1 := (y (0 : Fin 3)).isLt
  refine ⟨_, List.mem_flatMap.mpr ⟨⟨(y (1 : Fin 3)).val / 128, by omega⟩, mem_rs _, List.mem_map.mpr ⟨⟨(y (2 : Fin 3)).val / 128, by omega⟩, mem_cs _, rfl⟩⟩, ?_⟩
  refine mem_unit (inb_codes _ _) fun a => ?_
  match a with
  | ⟨0, _⟩ => show 0 ≤ (y (0 : Fin 3)).val ∧ (y (0 : Fin 3)).val < 0 + 1; omega
  | ⟨1, _⟩ => show 128 * ((y (1 : Fin 3)).val / 128) ≤ (y (1 : Fin 3)).val ∧ (y (1 : Fin 3)).val < 128 * ((y (1 : Fin 3)).val / 128) + 128; omega
  | ⟨2, _⟩ => show 128 * ((y (2 : Fin 3)).val / 128) ≤ (y (2 : Fin 3)).val ∧ (y (2 : Fin 3)).val < 128 * ((y (2 : Fin 3)).val / 128) + 128; omega

theorem Lcc_cov : Cov (Lcc x) := by
  intro y
  have h1 : (y (1 : Fin 3)).val < 512 := (y (1 : Fin 3)).isLt
  have h2 : (y (2 : Fin 3)).val < 1152 := (y (2 : Fin 3)).isLt
  have h0 : (y (0 : Fin 3)).val < 1 := (y (0 : Fin 3)).isLt
  refine ⟨_, List.mem_flatMap.mpr ⟨⟨(y (1 : Fin 3)).val / 128, by omega⟩, mem_rs _, List.mem_map.mpr ⟨⟨(y (2 : Fin 3)).val / 128, by omega⟩, mem_cs _, rfl⟩⟩, ?_⟩
  refine mem_unit (inb_codes _ _) fun a => ?_
  match a with
  | ⟨0, _⟩ => show 0 ≤ (y (0 : Fin 3)).val ∧ (y (0 : Fin 3)).val < 0 + 1; omega
  | ⟨1, _⟩ => show 128 * ((y (1 : Fin 3)).val / 128) ≤ (y (1 : Fin 3)).val ∧ (y (1 : Fin 3)).val < 128 * ((y (1 : Fin 3)).val / 128) + 128; omega
  | ⟨2, _⟩ => show 128 * ((y (2 : Fin 3)).val / 128) ≤ (y (2 : Fin 3)).val ∧ (y (2 : Fin 3)).val < 128 * ((y (2 : Fin 3)).val / 128) + 128; omega

theorem Lrs_cov : Cov (Lrs x) := by
  intro y
  have h1 : (y (1 : Fin 3)).val < 512 := (y (1 : Fin 3)).isLt
  have h2 : (y (2 : Fin 3)).val < 36 := (y (2 : Fin 3)).isLt
  have h0 : (y (0 : Fin 3)).val < 1 := (y (0 : Fin 3)).isLt
  refine ⟨_, List.mem_map.mpr ⟨⟨(y (1 : Fin 3)).val / 128, by omega⟩, mem_rs _, rfl⟩, ?_⟩
  refine mem_unit (inb_rs _) fun a => ?_
  match a with
  | ⟨0, _⟩ => show 0 ≤ (y (0 : Fin 3)).val ∧ (y (0 : Fin 3)).val < 0 + 1; omega
  | ⟨1, _⟩ => show 128 * ((y (1 : Fin 3)).val / 128) ≤ (y (1 : Fin 3)).val ∧ (y (1 : Fin 3)).val < 128 * ((y (1 : Fin 3)).val / 128) + 128; omega
  | ⟨2, _⟩ => show 0 ≤ (y (2 : Fin 3)).val ∧ (y (2 : Fin 3)).val < 0 + 36; omega

theorem Lrd_cov : Cov (Lrd x) := by
  intro y
  have h0 : (y (0 : Fin 2)).val < 512 := (y (0 : Fin 2)).isLt
  have h1 : (y (1 : Fin 2)).val < 1152 := (y (1 : Fin 2)).isLt
  refine ⟨_, List.mem_flatMap.mpr ⟨⟨(y (0 : Fin 2)).val / 128, by omega⟩, mem_rs _, List.mem_map.mpr ⟨⟨(y (1 : Fin 2)).val / 128, by omega⟩, mem_cs _, rfl⟩⟩, ?_⟩
  refine mem_unit (inb_row _ _) fun a => ?_
  match a with
  | ⟨0, _⟩ => show 128 * ((y (0 : Fin 2)).val / 128) ≤ (y (0 : Fin 2)).val ∧ (y (0 : Fin 2)).val < 128 * ((y (0 : Fin 2)).val / 128) + 128; omega
  | ⟨1, _⟩ => show 128 * ((y (1 : Fin 2)).val / 128) ≤ (y (1 : Fin 2)).val ∧ (y (1 : Fin 2)).val < 128 * ((y (1 : Fin 2)).val / 128) + 128; omega

theorem Lcd_cov : Cov (Lcd x) := by
  intro y
  have h0 : (y (0 : Fin 2)).val < 1152 := (y (0 : Fin 2)).isLt
  have h1 : (y (1 : Fin 2)).val < 512 := (y (1 : Fin 2)).isLt
  refine ⟨_, List.mem_flatMap.mpr ⟨⟨(y (1 : Fin 2)).val / 128, by omega⟩, mem_rs _, List.mem_map.mpr ⟨⟨(y (0 : Fin 2)).val / 128, by omega⟩, mem_cs _, rfl⟩⟩, ?_⟩
  refine mem_unit (inb_col _ _) fun a => ?_
  match a with
  | ⟨0, _⟩ => show 128 * ((y (0 : Fin 2)).val / 128) ≤ (y (0 : Fin 2)).val ∧ (y (0 : Fin 2)).val < 128 * ((y (0 : Fin 2)).val / 128) + 128; omega
  | ⟨1, _⟩ => show 128 * ((y (1 : Fin 2)).val / 128) ≤ (y (1 : Fin 2)).val ∧ (y (1 : Fin 2)).val < 128 * ((y (1 : Fin 2)).val / 128) + 128; omega

/-- The stores of exponents reach the point's own 4 rows, -/
theorem Lce_hit (i : grid0.Coords) (he : ∀ r, eoff i r = 4 * (t % 4) + r.val) (y : S16x4x1152.Idx)
    (hlo : 4 * (t % 4) ≤ (y (0 : Fin 3)).val) (hhi : (y (0 : Fin 3)).val < 4 * (t % 4) + 4) : ∃ p ∈ Lce i x, y ∈ p.1.set := by
  have h1 : (y (1 : Fin 3)).val < 4 := (y (1 : Fin 3)).isLt
  have h2 : (y (2 : Fin 3)).val < 1152 := (y (2 : Fin 3)).isLt
  refine ⟨_, List.mem_flatMap.mpr ⟨⟨(y (0 : Fin 3)).val - 4 * (t % 4), by omega⟩, mem_rs _, List.mem_map.mpr ⟨⟨(y (2 : Fin 3)).val / 128, by omega⟩, mem_cs _, rfl⟩⟩, ?_⟩
  refine mem_unit (inb_ew _ _ _) fun a => ?_
  match a with
  | ⟨0, _⟩ => show eoff i ⟨(y (0 : Fin 3)).val - 4 * (t % 4), _⟩ ≤ (y (0 : Fin 3)).val ∧ (y (0 : Fin 3)).val < eoff i ⟨(y (0 : Fin 3)).val - 4 * (t % 4), _⟩ + 1; rw [he]; dsimp only; omega
  | ⟨1, _⟩ => show 0 ≤ (y (1 : Fin 3)).val ∧ (y (1 : Fin 3)).val < 0 + 4; omega
  | ⟨2, _⟩ => show 128 * ((y (2 : Fin 3)).val / 128) ≤ (y (2 : Fin 3)).val ∧ (y (2 : Fin 3)).val < 128 * ((y (2 : Fin 3)).val / 128) + 128; omega

/-- and no others. -/
theorem Lce_miss (i : grid0.Coords) (he : ∀ r, eoff i r = 4 * (t % 4) + r.val) (y : S16x4x1152.Idx)
    (hlo : (y (0 : Fin 3)).val < 4 * (t % 4)) : ∀ p ∈ Lce i x, y ∉ p.1.set := by
  intro p hp
  simp only [Lce, List.mem_flatMap, List.mem_map] at hp
  obtain ⟨r, _, c, _, rfl⟩ := hp
  intro h
  have := (of_mem_unit (inb_ew i r c) h (0 : Fin 3)).1
  have h' : eoff i r ≤ (y (0 : Fin 3)).val := this
  rw [he] at h'
  omega

end Covers

section Exps
variable (x : Fin 4 → Fin 9 → Vec Ideal S1x128x128 .bf16)
variable (hx : ∀ (r : Fin 4) (c : Fin 9) (i l : Fin 128), x r c (ix3 0 i l) = I.D (128 * (4 * t + r.val) + i.val) (128 * c.val + l.val))
variable (i : grid0.Coords) (he : ∀ r, eoff i r = 4 * (t % 4) + r.val)
include hx he

/-- After the stores the exponents are right in the rows up to the point's own, if they were before. -/
theorem Lce_read (v : View sig .tc .vmem S16x4x1152 .i32) (f : v.ty.Contents (Elt Ideal))
    (hf : ∀ y : S16x4x1152.Idx, (y (0 : Fin 3)).val < 4 * (t % 4) → v.read (Elt Ideal) f y = gCE I t y)
    (y : S16x4x1152.Idx) (hy : (y (0 : Fin 3)).val < 4 * (t % 4) + 4) : v.read (Elt Ideal) (v.writes (Elt Ideal) f (Lce i x)) y = gCE I t y := by
  by_cases h : 4 * (t % 4) ≤ (y (0 : Fin 3)).val
  · exact View.read_writes_apply_of_pieces v f _ _ (Lce_is I t x hx i he) y (Lce_hit t x i he y h hy)
  · rw [View.read_writes_apply_of_forall_not_mem v f y _ (Lce_miss t x i he y (by omega))]
    exact hf y (by omega)

end Exps

/-! ## The products -/

section Products

def gDX : Vec Ideal S1x512x2880 .bf16 := fun y => dx I (512 * t + (y (1 : Fin 3)).val) (y (2 : Fin 3)).val
def gDW : Vec Ideal S1152x2880 .f32 := fun y => dw I t (y (0 : Fin 2)).val (y (1 : Fin 2)).val
def gW : Vec Ideal S1152x2880 .bf16 := fun y => wD I (y (0 : Fin 2)).val (y (1 : Fin 2)).val
def gX : Vec Ideal S64x2880 .i32 := fun y => word (I.XS (64 * (t / 4) + (y (0 : Fin 2)).val) (y (1 : Fin 2)).val)
def gCS : Vec Ideal S1x64x1152 .i8 := fun y => cSc I (64 * (t / 4) + (y (1 : Fin 3)).val) (y (2 : Fin 3)).val

/-- Tiles side by side that leave nothing out. -/
theorem tiles2_cov {n : ℕ} {e : EltTy} (L : List (View.Piece (Elt Ideal) ⟨2, ![n, 2880]⟩ e)) (w : ∀ j, (R2 n j).shape.Idx → Elt Ideal e) (w' : (R2' n).shape.Idx → Elt Ideal e)
    (hL : L = ⟨R2' n, w'⟩ :: ts.map fun j => ⟨R2 n j, w j⟩) : Cov L := by
  intro y
  subst hL
  have h0 : (y (0 : Fin 2)).val < n := (y (0 : Fin 2)).isLt
  have h1 : (y (1 : Fin 2)).val < 2880 := (y (1 : Fin 2)).isLt
  by_cases h : (y (1 : Fin 2)).val < 2816
  · refine ⟨_, List.mem_cons_of_mem _ (List.mem_map.mpr ⟨⟨(y (1 : Fin 2)).val / 256, by omega⟩, mem_ts _, rfl⟩), ?_⟩
    refine mem_unit (inb2 n _) fun a => ?_
    match a with
    | ⟨0, _⟩ => show 0 ≤ (y (0 : Fin 2)).val ∧ (y (0 : Fin 2)).val < 0 + n; omega
    | ⟨1, _⟩ => show 256 * ((y (1 : Fin 2)).val / 256) ≤ (y (1 : Fin 2)).val ∧ (y (1 : Fin 2)).val < 256 * ((y (1 : Fin 2)).val / 256) + 256; omega
  · refine ⟨_, List.mem_cons_self, ?_⟩
    refine mem_unit (inb2' n) fun a => ?_
    match a with
    | ⟨0, _⟩ => show 0 ≤ (y (0 : Fin 2)).val ∧ (y (0 : Fin 2)).val < 0 + n; omega
    | ⟨1, _⟩ => show 2816 ≤ (y (1 : Fin 2)).val ∧ (y (1 : Fin 2)).val < 2816 + 64; omega

theorem tiles3_cov {n : ℕ} {e : EltTy} (L : List (View.Piece (Elt Ideal) ⟨3, ![1, n, 2880]⟩ e)) (w : ∀ j, (R3 n j).shape.Idx → Elt Ideal e) (w' : (R3' n).shape.Idx → Elt Ideal e)
    (hL : L = ⟨R3' n, w'⟩ :: ts.map fun j => ⟨R3 n j, w j⟩) : Cov L := by
  intro y
  subst hL
  have hz : (y (0 : Fin 3)).val < 1 := (y (0 : Fin 3)).isLt
  have h0 : (y (1 : Fin 3)).val < n := (y (1 : Fin 3)).isLt
  have h1 : (y (2 : Fin 3)).val < 2880 := (y (2 : Fin 3)).isLt
  by_cases h : (y (2 : Fin 3)).val < 2816
  · refine ⟨_, List.mem_cons_of_mem _ (List.mem_map.mpr ⟨⟨(y (2 : Fin 3)).val / 256, by omega⟩, mem_ts _, rfl⟩), ?_⟩
    refine mem_unit (inb3 n _) fun a => ?_
    match a with
    | ⟨0, _⟩ => show 0 ≤ (y (0 : Fin 3)).val ∧ (y (0 : Fin 3)).val < 0 + 1; omega
    | ⟨1, _⟩ => show 0 ≤ (y (1 : Fin 3)).val ∧ (y (1 : Fin 3)).val < 0 + n; omega
    | ⟨2, _⟩ => show 256 * ((y (2 : Fin 3)).val / 256) ≤ (y (2 : Fin 3)).val ∧ (y (2 : Fin 3)).val < 256 * ((y (2 : Fin 3)).val / 256) + 256; omega
  · refine ⟨_, List.mem_cons_self, ?_⟩
    refine mem_unit (inb3' n) fun a => ?_
    match a with
    | ⟨0, _⟩ => show 0 ≤ (y (0 : Fin 3)).val ∧ (y (0 : Fin 3)).val < 0 + 1; omega
    | ⟨1, _⟩ => show 0 ≤ (y (1 : Fin 3)).val ∧ (y (1 : Fin 3)).val < 0 + n; omega
    | ⟨2, _⟩ => show 2816 ≤ (y (2 : Fin 3)).val ∧ (y (2 : Fin 3)).val < 2816 + 64; omega

variable {a : Vec Ideal S512x1152 .bf16} {w : Fin 11 → Vec Ideal S1152x256 .bf16} {w' : Vec Ideal S1152x64 .bf16}

theorem Ldx_cov : Cov (Ldx a w w') := tiles3_cov (n := 512) _ _ _ rfl

theorem Ldx_is (ha : ∀ i k, a (ix2 i k) = rD I (512 * t + i.val) k.val) (hw : ∀ j k l, w j (ix2 k l) = wD I k.val (256 * j.val + l.val))
    (hw' : ∀ k l, w' (ix2 k l) = wD I k.val (2816 + l.val)) : Is (Ldx a w w') (gDX I t) := by
  intro p hp
  simp only [Ldx, List.mem_cons, List.mem_map] at hp
  obtain rfl | ⟨j, _, rfl⟩ := hp
  · intro y
    obtain ⟨z, i, l, rfl⟩ : ∃ (z : Fin 1) (i : Fin 512) (l : Fin 64), y = ix3 z i l := ⟨y (0 : Fin 3), y (1 : Fin 3), y (2 : Fin 3), eq_ix3 y⟩
    obtain rfl : z = 0 := Subsingleton.elim _ _
    refine (dxT'_at a w' i l).trans ?_
    show _ = dx I (512 * t + (0 + 1 * i.val)) (2816 + 1 * l.val)
    rw [show 0 + 1 * i.val = i.val by omega, show 1 * l.val = l.val by omega, dx]
    exact Finset.sum_congr rfl fun k _ => by rw [ha, hw']
  · intro y
    obtain ⟨z, i, l, rfl⟩ : ∃ (z : Fin 1) (i : Fin 512) (l : Fin 256), y = ix3 z i l := ⟨y (0 : Fin 3), y (1 : Fin 3), y (2 : Fin 3), eq_ix3 y⟩
    obtain rfl : z = 0 := Subsingleton.elim _ _
    refine (dxT_at a (w j) i l).trans ?_
    show _ = dx I (512 * t + (0 + 1 * i.val)) (256 * j.val + 1 * l.val)
    rw [show 0 + 1 * i.val = i.val by omega, show 1 * l.val = l.val by omega, dx]
    exact Finset.sum_congr rfl fun k _ => by rw [ha, hw]

variable {q : Fin 11 → Vec Ideal S1152x256 .fp8e4m3} {q' : Vec Ideal S1152x64 .fp8e4m3} {s : Fin 11 → Vec Ideal S36x256 .i8} {s' : Vec Ideal S36x64 .i8}

theorem Lw_cov : Cov (Lw q q' s s') := tiles2_cov (n := 1152) _ _ _ rfl

theorem Lw_is (hq : ∀ j k l, q j (ix2 k l) = I.WC k.val (256 * j.val + l.val)) (hq' : ∀ k l, q' (ix2 k l) = I.WC k.val (2816 + l.val))
    (hs : ∀ j k l, s j (ix2 k l) = I.WS k.val (256 * j.val + l.val)) (hs' : ∀ k l, s' (ix2 k l) = I.WS k.val (2816 + l.val)) :
    Is (Lw q q' s s') (gW I) := by
  intro p hp
  simp only [Lw, List.mem_cons, List.mem_map] at hp
  obtain rfl | ⟨j, _, rfl⟩ := hp
  · intro y
    obtain ⟨i, l, rfl⟩ : ∃ (i : Fin 1152) (l : Fin 64), y = ix2 i l := ⟨y (0 : Fin 2), y (1 : Fin 2), eq_ix2 y⟩
    refine (wT'_at q' s' i l).trans ?_
    show _ = wD I (0 + 1 * i.val) (2816 + 1 * l.val)
    rw [show 0 + 1 * i.val = i.val by omega, show 1 * l.val = l.val by omega, wD, hq', hs']
  · intro y
    obtain ⟨i, l, rfl⟩ : ∃ (i : Fin 1152) (l : Fin 256), y = ix2 i l := ⟨y (0 : Fin 2), y (1 : Fin 2), eq_ix2 y⟩
    refine (wT_at (q j) (s j) i l).trans ?_
    show _ = wD I (0 + 1 * i.val) (256 * j.val + 1 * l.val)
    rw [show 0 + 1 * i.val = i.val by omega, show 1 * l.val = l.val by omega, wD, hq, hs]

variable {u : Fin 11 → Vec Ideal S1x64x256 .i8} {u' : Vec Ideal S1x64x64 .i8}

theorem Lx_cov : Cov (Lx (F := Ideal) u u') := tiles2_cov (n := 64) _ _ _ rfl

theorem Lx_is (hs : ∀ j k l, u j (ix3 0 k l) = I.XS (64 * (t / 4) + k.val) (256 * j.val + l.val)) (hs' : ∀ k l, u' (ix3 0 k l) = I.XS (64 * (t / 4) + k.val) (2816 + l.val)) :
    Is (Lx (F := Ideal) u u') (gX I t) := by
  intro p hp
  simp only [Lx, List.mem_cons, List.mem_map] at hp
  obtain rfl | ⟨j, _, rfl⟩ := hp
  · intro y
    obtain ⟨i, l, rfl⟩ : ∃ (i : Fin 64) (l : Fin 64), y = ix2 i l := ⟨y (0 : Fin 2), y (1 : Fin 2), eq_ix2 y⟩
    refine (xT'_at u' i l).trans ?_
    show _ = word (I.XS (64 * (t / 4) + (0 + 1 * i.val)) (2816 + 1 * l.val))
    rw [show 0 + 1 * i.val = i.val by omega, show 1 * l.val = l.val by omega, hs']
  · intro y
    obtain ⟨i, l, rfl⟩ : ∃ (i : Fin 64) (l : Fin 256), y = ix2 i l := ⟨y (0 : Fin 2), y (1 : Fin 2), eq_ix2 y⟩
    refine (xT_at (u j) i l).trans ?_
    show _ = word (I.XS (64 * (t / 4) + (0 + 1 * i.val)) (256 * j.val + 1 * l.val))
    rw [show 0 + 1 * i.val = i.val by omega, show 1 * l.val = l.val by omega, hs]

variable {X : Fin 11 → Vec Ideal S1x512x256 .fp8e4m3} {X' : Vec Ideal S1x512x64 .fp8e4m3} {W : Fin 11 → Vec Ideal S16x256 .i32} {W' : Vec Ideal S16x64 .i32}
    {P : Fin 11 → Vec Ideal S1152x256 .f32} {P' : Vec Ideal S1152x64 .f32} {d : Vec Ideal S1152x512 .bf16}

/-- One tile's product, added to `p`. -/
theorem dwT_val (hX : ∀ j k l, X j (ix3 0 k l) = I.XC (512 * t + k.val) (256 * j.val + l.val))
    (hW : ∀ j g l, W j (ix2 g l) = word (I.XS (16 * t + g.val) (256 * j.val + l.val)))
    (hd : ∀ n k, d (ix2 n k) = cD I (512 * t + k.val) n.val) (j : Fin 11) (p : Vec Ideal S1152x256 .f32) (i : Fin 1152) (l : Fin 256)
    (hp : p (ix2 i l) = dw I t i.val (256 * j.val + l.val)) : dwT (X j) (W j) p d (ix2 i l) = dw I (t + 1) i.val (256 * j.val + l.val) := by
  rw [dwT_at (X j) (W j) p d (fun g l => I.XS (16 * t + g.val) (256 * j.val + l.val)) (hW j), hp, dw]
  congr 1
  refine Finset.sum_congr rfl fun k _ => ?_
  rw [hd, hX, xD]
  rw [show 16 * t + k.val / 32 = (512 * t + k.val) / 32 by omega]

theorem dwT'_val (hX : ∀ k l, X' (ix3 0 k l) = I.XC (512 * t + k.val) (2816 + l.val))
    (hW : ∀ g l, W' (ix2 g l) = word (I.XS (16 * t + g.val) (2816 + l.val)))
    (hd : ∀ n k, d (ix2 n k) = cD I (512 * t + k.val) n.val) (p : Vec Ideal S1152x64 .f32) (i : Fin 1152) (l : Fin 64)
    (hp : p (ix2 i l) = dw I t i.val (2816 + l.val)) : dwT' X' W' p d (ix2 i l) = dw I (t + 1) i.val (2816 + l.val) := by
  rw [dwT'_at X' W' p d (fun g l => I.XS (16 * t + g.val) (2816 + l.val)) hW, hp, dw]
  congr 1
  refine Finset.sum_congr rfl fun k _ => ?_
  rw [hd, hX, xD]
  rw [show 16 * t + k.val / 32 = (512 * t + k.val) / 32 by omega]

theorem Ldw_cov : Cov (Ldw X X' W W' P P' d) := tiles2_cov (n := 1152) _ _ _ rfl

section
variable (hX : ∀ j k l, X j (ix3 0 k l) = I.XC (512 * t + k.val) (256 * j.val + l.val))
    (hX' : ∀ k l, X' (ix3 0 k l) = I.XC (512 * t + k.val) (2816 + l.val))
    (hW : ∀ j g l, W j (ix2 g l) = word (I.XS (16 * t + g.val) (256 * j.val + l.val)))
    (hW' : ∀ g l, W' (ix2 g l) = word (I.XS (16 * t + g.val) (2816 + l.val)))
    (hd : ∀ n k, d (ix2 n k) = cD I (512 * t + k.val) n.val)

include hX hX' hW hW' hd in
theorem Ldw_is (hP : ∀ j k l, P j (ix2 k l) = dw I t k.val (256 * j.val + l.val)) (hP' : ∀ k l, P' (ix2 k l) = dw I t k.val (2816 + l.val)) :
    Is (Ldw X X' W W' P P' d) (gDW I (t + 1)) := by
  intro p hp
  simp only [Ldw, List.mem_cons, List.mem_map] at hp
  obtain rfl | ⟨j, _, rfl⟩ := hp
  · intro y
    obtain ⟨i, l, rfl⟩ : ∃ (i : Fin 1152) (l : Fin 64), y = ix2 i l := ⟨y (0 : Fin 2), y (1 : Fin 2), eq_ix2 y⟩
    refine (dwT'_val I t hX' hW' hd P' i l (hP' i l)).trans ?_
    show _ = dw I (t + 1) (0 + 1 * i.val) (2816 + 1 * l.val)
    rw [show 0 + 1 * i.val = i.val by omega, show 1 * l.val = l.val by omega]
  · intro y
    obtain ⟨i, l, rfl⟩ : ∃ (i : Fin 1152) (l : Fin 256), y = ix2 i l := ⟨y (0 : Fin 2), y (1 : Fin 2), eq_ix2 y⟩
    refine (dwT_val I t hX hW hd j (P j) i l (hP j i l)).trans ?_
    show _ = dw I (t + 1) (0 + 1 * i.val) (256 * j.val + 1 * l.val)
    rw [show 0 + 1 * i.val = i.val by omega, show 1 * l.val = l.val by omega]

end

/-- After `j` tiles of the first point: the product there, zero beyond. -/
def gA (j : ℕ) : Vec Ideal S1152x2880 .f32 := fun y =>
  if (y (1 : Fin 2)).val < 256 * j then dw I 1 (y (0 : Fin 2)).val (y (1 : Fin 2)).val else 0

theorem pay4_at (y : S1152x2880.Idx) : k0_pay4 (F := Ideal) y = (0 : EReal) := by
  idx_vars y
  pointwise [k0_pay4]

section
variable (hX : ∀ j k l, X j (ix3 0 k l) = I.XC (512 * 0 + k.val) (256 * j.val + l.val))
    (hW : ∀ j g l, W j (ix2 g l) = word (I.XS (16 * 0 + g.val) (256 * j.val + l.val)))
    (hd : ∀ n k, d (ix2 n k) = cD I (512 * 0 + k.val) n.val)
include hX hW hd

theorem LdwA_read (arg7 : Memref sig .tc .vmem S1152x2880 .f32) : ∀ (j : ℕ) (hj : j ≤ 11) (f : arg7.view.ty.Contents (Elt Ideal)) (y : S1152x2880.Idx),
    arg7.view.read (Elt Ideal) (arg7.view.writes (Elt Ideal) f (LdwA arg7 X W d j hj)) y = gA I j y
  | 0, _, f, y => by
      rw [LdwA, View.read_writes_cons_hit_of_coords arg7.view f _ _ _ y y (fun a => by
        match a with
        | ⟨0, _⟩ => show (y (0 : Fin 2)).val = 0 + 1 * (y (0 : Fin 2)).val; omega
        | ⟨1, _⟩ => show (y (1 : Fin 2)).val = 0 + 1 * (y (1 : Fin 2)).val; omega), pay4_at, gA, if_neg (by omega)]
  | j + 1, hj, f, y => by
      obtain ⟨i, m, rfl⟩ : ∃ (i : Fin 1152) (m : Fin 2880), y = ix2 i m := ⟨y (0 : Fin 2), y (1 : Fin 2), eq_ix2 y⟩
      rw [LdwA]
      by_cases h : 256 * j ≤ m.val ∧ m.val < 256 * j + 256
      · rw [View.read_writes_cons_hit_of_coords arg7.view f _ _ _ (ix2 i (⟨m.val - 256 * j, by omega⟩ : Fin 256) : (⟨2, ![1152, 256]⟩ : Shape).Idx) _ (fun a => by
          match a with
          | ⟨0, _⟩ => show i.val = 0 + 1 * i.val; omega
          | ⟨1, _⟩ => show m.val = 256 * j + 1 * (m.val - 256 * j); omega)]
        refine (dwT_val I 0 hX hW hd ⟨j, hj⟩ _ i ⟨m.val - 256 * j, by omega⟩ ?_).trans ?_
        · show arg7.view.read (Elt Ideal) (arg7.view.writes (Elt Ideal) _ (LdwA arg7 X W d j _)) _ = _
          rw [LdwA_read arg7 j]
          show (if 256 * j + 1 * (m.val - 256 * j) < 256 * j then _ else (0 : EReal)) = _
          rw [if_neg (by omega), dw]
        · show dw I 1 i.val (256 * j + (m.val - 256 * j)) = if m.val < 256 * (j + 1) then dw I 1 i.val m.val else 0
          rw [if_pos (by omega), show 256 * j + (m.val - 256 * j) = m.val by omega]
      · rw [View.read_writes_cons_miss_of_axis arg7.view f _ _ _ (1 : Fin 2) (256 * j) 256 rfl rfl rfl (show m.val < 256 * j ∨ 256 * j + 256 ≤ m.val by omega), LdwA_read arg7 j]
        show (if m.val < 256 * j then dw I 1 i.val m.val else 0) = if m.val < 256 * (j + 1) then dw I 1 i.val m.val else (0 : EReal)
        by_cases h' : m.val < 256 * j
        · rw [if_pos h', if_pos (by omega)]
        · rw [if_neg h', if_neg (by omega)]

theorem LdwA_all (arg7 : Memref sig .tc .vmem S1152x2880 .f32) (hX' : ∀ k l, X' (ix3 0 k l) = I.XC (512 * 0 + k.val) (2816 + l.val))
    (hW' : ∀ g l, W' (ix2 g l) = word (I.XS (16 * 0 + g.val) (2816 + l.val))) (h : 11 ≤ 11) (f : arg7.view.ty.Contents (Elt Ideal)) :
    arg7.view.read (Elt Ideal) (arg7.view.writes (Elt Ideal) f (⟨R2' 1152, dwT' X' W' (arg7.view.readCov (LdwA arg7 X W d 11 h) (R2' 1152).toLoadRect) d⟩ :: LdwA arg7 X W d 11 h))
      = gDW I (0 + 1) := by
  funext y
  obtain ⟨i, m, rfl⟩ : ∃ (i : Fin 1152) (m : Fin 2880), y = ix2 i m := ⟨y (0 : Fin 2), y (1 : Fin 2), eq_ix2 y⟩
  by_cases h1 : m.val < 2816
  · rw [View.read_writes_cons_miss_of_axis arg7.view f _ _ _ (1 : Fin 2) 2816 64 rfl rfl rfl (show m.val < 2816 ∨ 2816 + 64 ≤ m.val by omega), LdwA_read I hX hW hd arg7 11]
    show (if m.val < 256 * 11 then dw I 1 i.val m.val else (0 : EReal)) = dw I (0 + 1) i.val m.val
    rw [if_pos (by omega)]
  · have := m.isLt
    rw [View.read_writes_cons_hit_of_coords arg7.view f _ _ _ (ix2 i (⟨m.val - 2816, by omega⟩ : Fin 64) : (⟨2, ![1152, 64]⟩ : Shape).Idx) _ (fun a => by
          match a with
          | ⟨0, _⟩ => show i.val = 0 + 1 * i.val; omega
          | ⟨1, _⟩ => show m.val = 2816 + 1 * (m.val - 2816); omega)]
    refine (dwT'_val I 0 hX' hW' hd _ i ⟨m.val - 2816, by omega⟩ ?_).trans ?_
    · show arg7.view.read (Elt Ideal) (arg7.view.writes (Elt Ideal) _ (LdwA arg7 X W d 11 _)) _ = _
      rw [LdwA_read I hX hW hd arg7 11]
      show (if 2816 + 1 * (m.val - 2816) < 256 * 11 then _ else (0 : EReal)) = _
      rw [if_neg (by omega), dw]
    · show dw I (0 + 1) i.val (2816 + (m.val - 2816)) = dw I (0 + 1) i.val m.val
      rw [show 2816 + (m.val - 2816) = m.val by omega]

end

theorem Lcs_cov (e : Vec Ideal S16x4x1152 .i32) : Cov (Lcs (F := Ideal) e) := by
  intro y
  refine ⟨_, List.mem_cons_self, mem_unit (inb_S1x64x1152_S1x64x1152_0_0_0) fun a => ?_⟩
  match a with
  | ⟨0, _⟩ => exact ⟨Nat.zero_le _, (y (0 : Fin 3)).isLt⟩
  | ⟨1, _⟩ => exact ⟨Nat.zero_le _, by have : (y (1 : Fin 3)).val < 64 := (y (1 : Fin 3)).isLt; show (y (1 : Fin 3)).val < 0 + 64; omega⟩
  | ⟨2, _⟩ => exact ⟨Nat.zero_le _, by have : (y (2 : Fin 3)).val < 1152 := (y (2 : Fin 3)).isLt; show (y (2 : Fin 3)).val < 0 + 1152; omega⟩

theorem Lcs_is (e : Vec Ideal S16x4x1152 .i32) (he : ∀ y, e y = gCE I t y) : Is (Lcs (F := Ideal) e) (gCS I t) := by
  intro p hp
  simp only [Lcs, List.mem_singleton] at hp
  subst hp
  intro y
  obtain ⟨z, i, l, rfl⟩ : ∃ (z : Fin 1) (i : Fin 64) (l : Fin 1152), y = ix3 z i l := ⟨y (0 : Fin 3), y (1 : Fin 3), y (2 : Fin 3), eq_ix3 y⟩
  obtain rfl : z = 0 := Subsingleton.elim _ _
  show k0_pay3 (F := Ideal) e (ix3 0 i l) = cSc I (64 * (t / 4) + (0 + 1 * i.val)) (0 + 1 * l.val)
  have h : k0_pay3 (F := Ideal) e (ix3 0 i l) = BitVec.setWidth 8 (e (ix3 ⟨i.val / 4, by omega⟩ ⟨i.val % 4, by omega⟩ l)) := by
    pointwise [k0_pay3]
  rw [h, he, cSc]
  show BitVec.setWidth 8 (cEW I (64 * (t / 4) + 4 * (i.val / 4) + i.val % 4) l.val) = _
  congr 2 <;> omega

end Products

end Cert.KernelIdeal.Hand

end
-- ==== Proof.Reads.lean ====
module

public import proofs.«01_k».proof.Proof.PieceValues

@[expose] public section

set_option maxRecDepth 16384

noncomputable section

/-! # What a point's loads and stores read

The kernel's loads at a point whose blocks are those of the inputs, and what its buffers hold after the stores, whatever
the case of the point. -/

namespace Cert.KernelIdeal.Hand

open Cert.KernelIdeal.Gen Idealize.ShloMosaic Cert.Mx

/-- The blocks of the inputs at point `t`. -/
structure Blk (I : Inp) (t : ℕ) (x0 : Vec Ideal S1x512x1152 .bf16) (x1 : Vec Ideal S1x512x2880 .fp8e4m3) (x2 : Vec Ideal S1x64x2880 .i8)
    (x3 : Vec Ideal S1152x2880 .fp8e4m3) (x4 : Vec Ideal S36x2880 .i8) : Prop where
  d : ∀ y, x0 y = I.D (512 * t + (y (1 : Fin 3)).val) (y (2 : Fin 3)).val
  xc : ∀ y, x1 y = I.XC (512 * t + (y (1 : Fin 3)).val) (y (2 : Fin 3)).val
  xs : ∀ y, x2 y = I.XS (64 * (t / 4) + (y (1 : Fin 3)).val) (y (2 : Fin 3)).val
  wc : ∀ y, x3 y = I.WC (y (0 : Fin 2)).val (y (1 : Fin 2)).val
  ws : ∀ y, x4 y = I.WS (y (0 : Fin 2)).val (y (1 : Fin 2)).val

/-- Where the point writes its exponents and reads its scale words. -/
structure Offs (t : ℕ) (i : grid0.Coords) : Prop where
  e : ∀ r, eoff i r = 4 * (t % 4) + r.val
  w : woff i = 16 * (t % 4)

variable {I : Inp} {t : ℕ} {i : grid0.Coords} {x0 : Vec Ideal S1x512x1152 .bf16} {x1 : Vec Ideal S1x512x2880 .fp8e4m3} {x2 : Vec Ideal S1x64x2880 .i8}
    {x3 : Vec Ideal S1152x2880 .fp8e4m3} {x4 : Vec Ideal S36x2880 .i8}
variable {arg1 : Memref sig .tc .vmem S1x512x1152 .bf16} {harg1 : arg1.IsWhole} {arg2 : Memref sig .tc .vmem S1x512x2880 .fp8e4m3} {harg2 : arg2.IsWhole} {arg3 : Memref sig .tc .vmem S1x64x2880 .i8} {harg3 : arg3.IsWhole} {arg4 : Memref sig .tc .vmem S1152x2880 .fp8e4m3} {harg4 : arg4.IsWhole} {arg5 : Memref sig .tc .vmem S36x2880 .i8} {harg5 : arg5.IsWhole} {arg7 : Memref sig .tc .vmem S1152x2880 .f32} {harg7 : arg7.IsWhole} {arg12 : Memref sig .tc .vmem S1152x2880 .bf16} {harg12 : arg12.IsWhole} {arg13 : Memref sig .tc .vmem S512x1152 .bf16} {arg14 : Memref sig .tc .vmem S1152x512 .bf16} {arg15 : Memref sig .tc .vmem S64x2880 .i32} {harg15 : arg15.IsWhole} {arg16 : Memref sig .tc .vmem S16x4x1152 .i32}

theorem gDW_def (y) : gDW I t y = dw I t (y (0 : Fin 2)).val (y (1 : Fin 2)).val := rfl

/-- Chunk `(r, c)` of the gradient's block. -/
theorem ldC_at (B : Blk I t x0 x1 x2 x3 x4) (r : Fin 4) (c : Fin 9) (i l : Fin 128) :
    ldC arg1 harg1 x0 r c (ix3 0 i l) = I.D (128 * (4 * t + r.val) + i.val) (128 * c.val + l.val) := by
  rw [ldC, Memref.IsWhole.readAt_unread, B.d]
  show I.D (512 * t + (128 * r.val + 1 * i.val)) (128 * c.val + 1 * l.val) = _
  congr 1 <;> omega

section
variable (B : Blk I t x0 x1 x2 x3 x4)
include B

theorem rc_read {v : View sig .tc .vmem S1x512x1152 .fp8e4m3} {f} : v.read (Elt Ideal) (v.writes (Elt Ideal) f (Lrc (ldC arg1 harg1 x0))) = gRC I t :=
  read_of v (Lrc_is I t _ (ldC_at B)) (Lrc_cov _) f
theorem cc_read {v : View sig .tc .vmem S1x512x1152 .fp8e4m3} {f} : v.read (Elt Ideal) (v.writes (Elt Ideal) f (Lcc (ldC arg1 harg1 x0))) = gCC I t :=
  read_of v (Lcc_is I t _ (ldC_at B)) (Lcc_cov _) f
theorem rs_read {v : View sig .tc .vmem S1x512x36 .i8} {f} : v.read (Elt Ideal) (v.writes (Elt Ideal) f (Lrs (ldC arg1 harg1 x0))) = gRS I t :=
  read_of v (Lrs_is I t _ (ldC_at B)) (Lrs_cov _) f

/-- The row-wise values as the product loads them, -/
theorem rd_at (v : View sig .tc .vmem S512x1152 .bf16) (i : Fin 512) (k : Fin 1152) :
    v.readCov (Lrd (ldC arg1 harg1 x0)) Rrd.toLoadRect (ix2 i k) = rD I (512 * t + i.val) k.val := by
  rw [readCov_of v (Lrd_is I t _ (ldC_at B)) (Lrd_cov _)]
  show rD I (512 * t + (0 + 1 * i.val)) (0 + 1 * k.val) = _
  congr 1 <;> omega
/-- and the column-wise ones. -/
theorem cd_at (v : View sig .tc .vmem S1152x512 .bf16) (n : Fin 1152) (k : Fin 512) :
    v.readCov (Lcd (ldC arg1 harg1 x0)) Rcd.toLoadRect (ix2 n k) = cD I (512 * t + k.val) n.val := by
  rw [readCov_of v (Lcd_is I t _ (ldC_at B)) (Lcd_cov _)]
  show cD I (512 * t + (0 + 1 * k.val)) (0 + 1 * n.val) = _
  congr 1 <;> omega

theorem xc_at (j : Fin 11) (k : Fin 512) (l : Fin 256) : arg2.view.readAt (Elt Ideal) (R3 512 j).toLoadRect (harg2.unread x1) (ix3 0 k l) = I.XC (512 * t + k.val) (256 * j.val + l.val) := by
  rw [Memref.IsWhole.readAt_unread, B.xc]
  show I.XC (512 * t + (0 + 1 * k.val)) (256 * j.val + 1 * l.val) = _
  congr 1 <;> omega
theorem xc'_at (k : Fin 512) (l : Fin 64) : arg2.view.readAt (Elt Ideal) (R3' 512).toLoadRect (harg2.unread x1) (ix3 0 k l) = I.XC (512 * t + k.val) (2816 + l.val) := by
  rw [Memref.IsWhole.readAt_unread, B.xc]
  show I.XC (512 * t + (0 + 1 * k.val)) (2816 + 1 * l.val) = _
  congr 1 <;> omega
theorem xs_at (j : Fin 11) (k : Fin 64) (l : Fin 256) : arg3.view.readAt (Elt Ideal) (R3 64 j).toLoadRect (harg3.unread x2) (ix3 0 k l) = I.XS (64 * (t / 4) + k.val) (256 * j.val + l.val) := by
  rw [Memref.IsWhole.readAt_unread, B.xs]
  show I.XS (64 * (t / 4) + (0 + 1 * k.val)) (256 * j.val + 1 * l.val) = _
  congr 1 <;> omega
theorem xs'_at (k : Fin 64) (l : Fin 64) : arg3.view.readAt (Elt Ideal) (R3' 64).toLoadRect (harg3.unread x2) (ix3 0 k l) = I.XS (64 * (t / 4) + k.val) (2816 + l.val) := by
  rw [Memref.IsWhole.readAt_unread, B.xs]
  show I.XS (64 * (t / 4) + (0 + 1 * k.val)) (2816 + 1 * l.val) = _
  congr 1 <;> omega
theorem wc_at (j : Fin 11) (k : Fin 1152) (l : Fin 256) : arg4.view.readAt (Elt Ideal) (R2 1152 j).toLoadRect (harg4.unread x3) (ix2 k l) = I.WC k.val (256 * j.val + l.val) := by
  rw [Memref.IsWhole.readAt_unread, B.wc]
  show I.WC (0 + 1 * k.val) (256 * j.val + 1 * l.val) = _
  congr 1 <;> omega
theorem wc'_at (k : Fin 1152) (l : Fin 64) : arg4.view.readAt (Elt Ideal) (R2' 1152).toLoadRect (harg4.unread x3) (ix2 k l) = I.WC k.val (2816 + l.val) := by
  rw [Memref.IsWhole.readAt_unread, B.wc]
  show I.WC (0 + 1 * k.val) (2816 + 1 * l.val) = _
  congr 1 <;> omega
theorem ws_at (j : Fin 11) (k : Fin 36) (l : Fin 256) : arg5.view.readAt (Elt Ideal) (R2 36 j).toLoadRect (harg5.unread x4) (ix2 k l) = I.WS k.val (256 * j.val + l.val) := by
  rw [Memref.IsWhole.readAt_unread, B.ws]
  show I.WS (0 + 1 * k.val) (256 * j.val + 1 * l.val) = _
  congr 1 <;> omega
theorem ws'_at (k : Fin 36) (l : Fin 64) : arg5.view.readAt (Elt Ideal) (R2' 36).toLoadRect (harg5.unread x4) (ix2 k l) = I.WS k.val (2816 + l.val) := by
  rw [Memref.IsWhole.readAt_unread, B.ws]
  show I.WS (0 + 1 * k.val) (2816 + 1 * l.val) = _
  congr 1 <;> omega

/-- The stores of the widened weights, -/
theorem LW_is : Is (Lw (fun j => arg4.view.readAt (Elt Ideal) (R2 1152 j).toLoadRect (harg4.unread x3)) (arg4.view.readAt (Elt Ideal) (R2' 1152).toLoadRect (harg4.unread x3)) (fun j => arg5.view.readAt (Elt Ideal) (R2 36 j).toLoadRect (harg5.unread x4)) (arg5.view.readAt (Elt Ideal) (R2' 36).toLoadRect (harg5.unread x4))) (gW I) :=
  Lw_is I (wc_at B) (wc'_at B) (ws_at B) (ws'_at B)
/-- and of the scale words. -/
theorem LX_is : Is (Lx (F := Ideal) (fun j => arg3.view.readAt (Elt Ideal) (R3 64 j).toLoadRect (harg3.unread x2)) (arg3.view.readAt (Elt Ideal) (R3' 64).toLoadRect (harg3.unread x2))) (gX I t) :=
  Lx_is I t (xs_at B) (xs'_at B)
end

/-! ## Carried buffers as loaded -/

theorem wtile_at (j : Fin 11) (k : Fin 1152) (l : Fin 256) : (fun y => gW I ((R2 1152 j).toLoadRect.idx y)) (ix2 k l) = wD I k.val (256 * j.val + l.val) := by
  show wD I (0 + 1 * k.val) (256 * j.val + 1 * l.val) = _
  congr 1 <;> omega
theorem wtile'_at (k : Fin 1152) (l : Fin 64) : (fun y => gW I ((R2' 1152).toLoadRect.idx y)) (ix2 k l) = wD I k.val (2816 + l.val) := by
  show wD I (0 + 1 * k.val) (2816 + 1 * l.val) = _
  congr 1 <;> omega
theorem ptile_at (j : Fin 11) (k : Fin 1152) (l : Fin 256) : (fun y => gDW I t ((R2 1152 j).toLoadRect.idx y)) (ix2 k l) = dw I t k.val (256 * j.val + l.val) := by
  show dw I t (0 + 1 * k.val) (256 * j.val + 1 * l.val) = _
  congr 1 <;> omega
theorem ptile'_at (k : Fin 1152) (l : Fin 64) : (fun y => gDW I t ((R2' 1152).toLoadRect.idx y)) (ix2 k l) = dw I t k.val (2816 + l.val) := by
  show dw I t (0 + 1 * k.val) (2816 + 1 * l.val) = _
  congr 1 <;> omega
theorem word_tile_at (O : Offs t i) (j : Fin 11) (g : Fin 16) (l : Fin 256) : (fun y => gX I t ((RW i j).toLoadRect.idx y)) (ix2 g l) = word (I.XS (16 * t + g.val) (256 * j.val + l.val)) := by
  show word (I.XS (64 * (t / 4) + (woff i + 1 * g.val)) (256 * j.val + 1 * l.val)) = _
  rw [O.w, show 64 * (t / 4) + (16 * (t % 4) + 1 * g.val) = 16 * t + g.val by omega, one_mul]
theorem word_tile'_at (O : Offs t i) (g : Fin 16) (l : Fin 64) : (fun y => gX I t ((RW' i).toLoadRect.idx y)) (ix2 g l) = word (I.XS (16 * t + g.val) (2816 + l.val)) := by
  show word (I.XS (64 * (t / 4) + (woff i + 1 * g.val)) (2816 + 1 * l.val)) = _
  rw [O.w, show 64 * (t / 4) + (16 * (t % 4) + 1 * g.val) = 16 * t + g.val by omega, one_mul]

/-- A whole buffer at known contents, loaded. -/
theorem unread_load {sg : RefSig} {κ : Kind} {sp : Space} {s : Shape} {e : EltTy} {mr : Memref sg κ sp s e} (h : mr.IsWhole) (X : s.Idx → Elt Ideal e) (R : LoadRect s) :
    View.readAt (Elt Ideal) mr.view R (h.unread X) = fun y => X (R.idx y) := funext fun y => Memref.IsWhole.readAt_unread ..

/-! ## The products -/

section
variable (B : Blk I t x0 x1 x2 x3 x4)
include B

/-- `dx` with the weights carried, -/
theorem dx_read {v : View sig .tc .vmem S1x512x2880 .bf16} {f} : v.read (Elt Ideal) (v.writes (Elt Ideal) f (Ldx (arg13.view.readCov (Lrd (ldC arg1 harg1 x0)) Rrd.toLoadRect) (fun j => (arg12.view.readAt (Elt Ideal) (R2 1152 j).toLoadRect (harg12.unread (gW I)))) (arg12.view.readAt (Elt Ideal) (R2' 1152).toLoadRect (harg12.unread (gW I))))) = gDX I t := by
  simp only [unread_load harg12]
  exact read_of v (Ldx_is I t (rd_at B _) (fun j k l => wtile_at j k l) (fun k l => wtile'_at k l)) Ldx_cov f
/-- and with the weights just stored. -/
theorem dxA_read {v : View sig .tc .vmem S1x512x2880 .bf16} {f} : v.read (Elt Ideal) (v.writes (Elt Ideal) f (Ldx (arg13.view.readCov (Lrd (ldC arg1 harg1 x0)) Rrd.toLoadRect) (fun j => (arg12.view.readCov (Lw (fun j => arg4.view.readAt (Elt Ideal) (R2 1152 j).toLoadRect (harg4.unread x3)) (arg4.view.readAt (Elt Ideal) (R2' 1152).toLoadRect (harg4.unread x3)) (fun j => arg5.view.readAt (Elt Ideal) (R2 36 j).toLoadRect (harg5.unread x4)) (arg5.view.readAt (Elt Ideal) (R2' 36).toLoadRect (harg5.unread x4))) (R2 1152 j).toLoadRect)) (arg12.view.readCov (Lw (fun j => arg4.view.readAt (Elt Ideal) (R2 1152 j).toLoadRect (harg4.unread x3)) (arg4.view.readAt (Elt Ideal) (R2' 1152).toLoadRect (harg4.unread x3)) (fun j => arg5.view.readAt (Elt Ideal) (R2 36 j).toLoadRect (harg5.unread x4)) (arg5.view.readAt (Elt Ideal) (R2' 36).toLoadRect (harg5.unread x4))) (R2' 1152).toLoadRect))) = gDX I t := by
  simp only [readCov_of arg12.view (LW_is B) Lw_cov]
  exact read_of v (Ldx_is I t (rd_at B _) (fun j k l => wtile_at j k l) (fun k l => wtile'_at k l)) Ldx_cov f

/-- `dw` with the scale words carried, -/
theorem dw_read (O : Offs t i) {v : View sig .tc .vmem S1152x2880 .f32} {f} : v.read (Elt Ideal) (v.writes (Elt Ideal) f (Ldw (fun j => arg2.view.readAt (Elt Ideal) (R3 512 j).toLoadRect (harg2.unread x1)) (arg2.view.readAt (Elt Ideal) (R3' 512).toLoadRect (harg2.unread x1)) (fun j => (arg15.view.readAt (Elt Ideal) (RW i j).toLoadRect (harg15.unread (gX I t)))) (arg15.view.readAt (Elt Ideal) (RW' i).toLoadRect (harg15.unread (gX I t))) (fun j => arg7.view.readAt (Elt Ideal) (R2 1152 j).toLoadRect (harg7.unread (gDW I t))) (arg7.view.readAt (Elt Ideal) (R2' 1152).toLoadRect (harg7.unread (gDW I t))) (arg14.view.readCov (Lcd (ldC arg1 harg1 x0)) Rcd.toLoadRect))) = gDW I (t + 1) := by
  simp only [unread_load harg15, unread_load harg7]
  exact read_of v (Ldw_is I t (xc_at B) (xc'_at B) (fun j g l => word_tile_at O j g l) (fun g l => word_tile'_at O g l) (cd_at B _) (fun j k l => ptile_at j k l) (fun k l => ptile'_at k l)) Ldw_cov f
/-- with the scale words just stored, -/
theorem dwD_read (O : Offs t i) {v : View sig .tc .vmem S1152x2880 .f32} {f} : v.read (Elt Ideal) (v.writes (Elt Ideal) f (Ldw (fun j => arg2.view.readAt (Elt Ideal) (R3 512 j).toLoadRect (harg2.unread x1)) (arg2.view.readAt (Elt Ideal) (R3' 512).toLoadRect (harg2.unread x1)) (fun j => (arg15.view.readAt (Elt Ideal) (RW i j).toLoadRect (arg15.view.writes (Elt Ideal) arg15.view.junk (Lx (fun j => arg3.view.readAt (Elt Ideal) (R3 64 j).toLoadRect (harg3.unread x2)) (arg3.view.readAt (Elt Ideal) (R3' 64).toLoadRect (harg3.unread x2)))))) (arg15.view.readAt (Elt Ideal) (RW' i).toLoadRect (arg15.view.writes (Elt Ideal) arg15.view.junk (Lx (fun j => arg3.view.readAt (Elt Ideal) (R3 64 j).toLoadRect (harg3.unread x2)) (arg3.view.readAt (Elt Ideal) (R3' 64).toLoadRect (harg3.unread x2))))) (fun j => arg7.view.readAt (Elt Ideal) (R2 1152 j).toLoadRect (harg7.unread (gDW I t))) (arg7.view.readAt (Elt Ideal) (R2' 1152).toLoadRect (harg7.unread (gDW I t))) (arg14.view.readCov (Lcd (ldC arg1 harg1 x0)) Rcd.toLoadRect))) = gDW I (t + 1) := by
  simp only [readAt_of arg15.view (LX_is B) Lx_cov, unread_load harg7]
  exact read_of v (Ldw_is I t (xc_at B) (xc'_at B) (fun j g l => word_tile_at O j g l) (fun g l => word_tile'_at O g l) (cd_at B _) (fun j k l => ptile_at j k l) (fun k l => ptile'_at k l)) Ldw_cov f
end

/-- and at the first point, from zero. -/
theorem dwA_read (B : Blk I 0 x0 x1 x2 x3 x4) (O : Offs 0 i) {f : arg7.view.ty.Contents (Elt Ideal)} : arg7.view.read (Elt Ideal) (arg7.view.writes (Elt Ideal) f (⟨R2' 1152, dwT' (arg2.view.readAt (Elt Ideal) (R3' 512).toLoadRect (harg2.unread x1)) (arg15.view.readAt (Elt Ideal) (RW' i).toLoadRect (arg15.view.writes (Elt Ideal) arg15.view.junk (Lx (fun j => arg3.view.readAt (Elt Ideal) (R3 64 j).toLoadRect (harg3.unread x2)) (arg3.view.readAt (Elt Ideal) (R3' 64).toLoadRect (harg3.unread x2))))) (arg7.view.readCov (LdwA arg7 (fun j => arg2.view.readAt (Elt Ideal) (R3 512 j).toLoadRect (harg2.unread x1)) (fun j => (arg15.view.readAt (Elt Ideal) (RW i j).toLoadRect (arg15.view.writes (Elt Ideal) arg15.view.junk (Lx (fun j => arg3.view.readAt (Elt Ideal) (R3 64 j).toLoadRect (harg3.unread x2)) (arg3.view.readAt (Elt Ideal) (R3' 64).toLoadRect (harg3.unread x2)))))) (arg14.view.readCov (Lcd (ldC arg1 harg1 x0)) Rcd.toLoadRect) 11 (le_refl _)) (R2' 1152).toLoadRect) (arg14.view.readCov (Lcd (ldC arg1 harg1 x0)) Rcd.toLoadRect)⟩ :: LdwA arg7 (fun j => arg2.view.readAt (Elt Ideal) (R3 512 j).toLoadRect (harg2.unread x1)) (fun j => (arg15.view.readAt (Elt Ideal) (RW i j).toLoadRect (arg15.view.writes (Elt Ideal) arg15.view.junk (Lx (fun j => arg3.view.readAt (Elt Ideal) (R3 64 j).toLoadRect (harg3.unread x2)) (arg3.view.readAt (Elt Ideal) (R3' 64).toLoadRect (harg3.unread x2)))))) (arg14.view.readCov (Lcd (ldC arg1 harg1 x0)) Rcd.toLoadRect) 11 (le_refl _))) = gDW I (0 + 1) := by
  simp only [readAt_of arg15.view (LX_is B) Lx_cov]
  exact LdwA_all I (xc_at B) (fun j g l => word_tile_at O j g l) (cd_at B _) arg7 (xc'_at B) (fun g l => word_tile'_at O g l) _ f

/-! ## The exponents' buffer and the stored column scales -/

/-- The groups the point and those of its run before it have left are right. -/
def CE (I : Inp) (t : ℕ) (e : Vec Ideal S16x4x1152 .i32) : Prop := ∀ y : S16x4x1152.Idx, (y (0 : Fin 3)).val < 4 * (t % 4) + 4 → e y = gCE I t y
/-- The same before the point. -/
def CE' (I : Inp) (t : ℕ) (e : Vec Ideal S16x4x1152 .i32) : Prop := ∀ y : S16x4x1152.Idx, (y (0 : Fin 3)).val < 4 * (t % 4) → e y = gCE I t y

section
variable (B : Blk I t x0 x1 x2 x3 x4) (O : Offs t i)
include B O

theorem ce_read {v : View sig .tc .vmem S16x4x1152 .i32} {f} (hf : CE' I t (v.read (Elt Ideal) f)) : CE I t (v.read (Elt Ideal) (v.writes (Elt Ideal) f (Lce i (ldC arg1 harg1 x0)))) :=
  Lce_read I t _ (ldC_at B) i O.e v f hf
theorem cs_read (h3 : t % 4 = 3) {f} (hf : CE' I t (arg16.view.read (Elt Ideal) f)) {v : View sig .tc .vmem S1x64x1152 .i8} {f'} :
    v.read (Elt Ideal) (v.writes (Elt Ideal) f' (Lcs (F := Ideal) (arg16.view.readAt (Elt Ideal) Rce.toLoadRect (arg16.view.writes (Elt Ideal) f (Lce i (ldC arg1 harg1 x0)))))) = gCS I t := by
  refine read_of v (Lcs_is I t _ fun y => ?_) (Lcs_cov _) f'
  have hy : Rce.toLoadRect.idx y = y := by
    funext a
    apply Fin.ext
    match a with
    | ⟨0, _⟩ => show 0 + 1 * (y (0 : Fin 3)).val = _; rw [Nat.zero_add, one_mul]; rfl
    | ⟨1, _⟩ => show 0 + 1 * (y (1 : Fin 3)).val = _; rw [Nat.zero_add, one_mul]; rfl
    | ⟨2, _⟩ => show 0 + 1 * (y (2 : Fin 3)).val = _; rw [Nat.zero_add, one_mul]; rfl
  rw [View.readAt, hy]
  exact ce_read B O hf y (by have : (y (0 : Fin 3)).val < 16 := (y (0 : Fin 3)).isLt; omega)
end

end Cert.KernelIdeal.Hand

end
-- ==== Proof.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (Scalar.remsi (BitVec.ofNat 32 (i 0).val) 4#32) 0#32)) 0#32) = 1#1
/-- It holds at the points ≡ 0 (mod 4) — decided over the grid. -/
theorem hcond0_1 : ∀ t : Fin cfg0.N, cond0_1 (grid0.coords t) ↔ t.val % 4 = 0 :=
  (by decide +kernel : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≡ 3 (mod 4) — decided over the grid. -/
theorem hcond0_2 : ∀ t : Fin cfg0.N, cond0_2 (grid0.coords t) ↔ t.val % 4 = 3 :=
  (by decide +kernel : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- At the points of case A the printed configuration (`Cfg.idle`) calls output 10 idle: the case stores nothing into it. -/
theorem idleAt0_10_A : ∀ t : Fin cfg0.N, cond0_0 (grid0.coords t) → cond0_1 (grid0.coords t) → ¬cond0_2 (grid0.coords t) → cfg0.idle 10 (grid0.coords t) = true := by decide +kernel
/-- At the points of case A the pipeline does not write output 10's block back. -/
theorem noFlush0_10_A : ∀ t : Fin cfg0.N, cond0_0 (grid0.coords t) → cond0_1 (grid0.coords t) → ¬cond0_2 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → ¬cond0_2 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → ¬cond0_2 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → ¬cond0_1 (grid0.coords t) → cond0_2 (grid0.coords t) → cfg0.idle 10 (grid0.coords t) = false := by decide +kernel
/-- At the points of case D the printed configuration (`Cfg.idle`) calls output 10 idle: the case stores nothing into it. -/
theorem idleAt0_10_D : ∀ t : Fin cfg0.N, ¬cond0_0 (grid0.coords t) → cond0_1 (grid0.coords t) → ¬cond0_2 (grid0.coords t) → cfg0.idle 10 (grid0.coords t) = true := by decide +kernel
/-- At the points of case D the pipeline does not write output 10's block back. -/
theorem noFlush0_10_D : ∀ t : Fin cfg0.N, ¬cond0_0 (grid0.coords t) → cond0_1 (grid0.coords t) → ¬cond0_2 (grid0.coords t) → (cfg0.win 10).flush t = false := by decide +kernel

/-! ## The kernel body on any staging memrefs: a subtype the run finds -/

/-- One staging buffer of output window 5, through which its contents are stated (`View.read_writes_of_cover`: the
    choice does not matter). -/
abbrev VO0_5 : View sig .tc .vmem S1x512x2880 .bf16 := (Memref.whole cc0_stg5_0 : Memref sig .tc .vmem S1x512x2880 .bf16).view
/-- One staging buffer of output window 6, through which its contents are stated (`View.read_writes_of_cover`: the
    choice does not matter). -/
abbrev VO0_6 : View sig .tc .vmem S1152x2880 .f32 := (Memref.whole cc0_stg6_0 : Memref sig .tc .vmem S1152x2880 .f32).view
/-- One staging buffer of output window 7, through which its contents are stated (`View.read_writes_of_cover`: the
    choice does not matter). -/
abbrev VO0_7 : View sig .tc .vmem S1x512x1152 .fp8e4m3 := (Memref.whole cc0_stg7_0 : Memref sig .tc .vmem S1x512x1152 .fp8e4m3).view
/-- One staging buffer of output window 8, through which its contents are stated (`View.read_writes_of_cover`: the
    choice does not matter). -/
abbrev VO0_8 : View sig .tc .vmem S1x512x36 .i8 := (Memref.whole cc0_stg8_0 : Memref sig .tc .vmem S1x512x36 .i8).view
/-- One staging buffer of output window 9, through which its contents are stated (`View.read_writes_of_cover`: the
    choice does not matter). -/
abbrev VO0_9 : View sig .tc .vmem S1x512x1152 .fp8e4m3 := (Memref.whole cc0_stg9_0 : Memref sig .tc .vmem S1x512x1152 .fp8e4m3).view
/-- One staging buffer of output window 10, through which its contents are stated (`View.read_writes_of_cover`: the
    choice does not matter). -/
abbrev VO0_10 : View sig .tc .vmem S1x64x1152 .i8 := (Memref.whole cc0_stg10_0 : Memref sig .tc .vmem S1x64x1152 .i8).view
/-- Each window's current staging memref at point `t`, spelled as the pipeline passes it (`bodyAt0`), and its wholeness. -/
abbrev ms0_0 (t : Fin cfg0.N) : Memref sig .tc .vmem S1x512x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2880 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x2880 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1152x2880 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S36x2880 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x2880 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x2880 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1152 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x36 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1152 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64x1152 .i8 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1152x2880 .bf16 := Memref.whole cc0_scratch0
abbrev scM0_1 : Memref sig .tc .vmem S512x1152 .bf16 := Memref.whole cc0_scratch1
abbrev scM0_2 : Memref sig .tc .vmem S1152x512 .bf16 := Memref.whole cc0_scratch2
abbrev scM0_3 : Memref sig .tc .vmem S64x2880 .i32 := Memref.whole cc0_scratch3
abbrev scM0_4 : Memref sig .tc .vmem S16x4x1152 .i32 := Memref.whole cc0_scratch4
/-- The scratch `arg12` the kernel carries between points, as a view: what it holds is stated through it. -/
abbrev VS0_0 : View sig .tc .vmem S1152x2880 .bf16 := scM0_0.view
/-- The scratch `arg15` the kernel carries between points, as a view: what it holds is stated through it. -/
abbrev VS0_3 : View sig .tc .vmem S64x2880 .i32 := scM0_3.view
/-- The scratch `arg16` the kernel carries between points, as a view: what it holds is stated through it. -/
abbrev VS0_4 : View sig .tc .vmem S16x4x1152 .i32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.Point.lean ====
module

public import proofs.«01_k».proof.Proof.Reads
public import proofs.«01_k».proof.Proof.Runs

@[expose] public section

set_option maxRecDepth 16384

noncomputable section

/-! # The inputs as functions of natural indices, and the blocks a point loads -/

namespace Cert.Mx

open Idealize.ShloMosaic

/-- The inputs: row `R` of 16384 is `(R / 2048, R % 2048)`, group `G` of 512 is `(G / 64, G % 64)`. -/
def inpOf (dy : Vec Ideal ⟨3, ![8, 2048, 1152]⟩ .bf16) (xc : Vec Ideal ⟨3, ![8, 2048, 2880]⟩ .fp8e4m3) (xs : Vec Ideal ⟨3, ![8, 64, 2880]⟩ .i8)
    (wc : Vec Ideal ⟨2, ![1152, 2880]⟩ .fp8e4m3) (ws : Vec Ideal ⟨2, ![36, 2880]⟩ .i8) : Inp where
  D R n := if h : R < 16384 ∧ n < 1152 then dy (ix3 ⟨R / 2048, by omega⟩ ⟨R % 2048, by omega⟩ ⟨n, by omega⟩) else (0 : EReal)
  XC R d := if h : R < 16384 ∧ d < 2880 then xc (ix3 ⟨R / 2048, by omega⟩ ⟨R % 2048, by omega⟩ ⟨d, by omega⟩) else (0 : EReal)
  XS G d := if h : G < 512 ∧ d < 2880 then xs (ix3 ⟨G / 64, by omega⟩ ⟨G % 64, by omega⟩ ⟨d, by omega⟩) else 0
  WC n d := if h : n < 1152 ∧ d < 2880 then wc (ix2 ⟨n, by omega⟩ ⟨d, by omega⟩) else (0 : EReal)
  WS g d := if h : g < 36 ∧ d < 2880 then ws (ix2 ⟨g, by omega⟩ ⟨d, by omega⟩) else 0

variable {dy : Vec Ideal ⟨3, ![8, 2048, 1152]⟩ .bf16} {xc : Vec Ideal ⟨3, ![8, 2048, 2880]⟩ .fp8e4m3} {xs : Vec Ideal ⟨3, ![8, 64, 2880]⟩ .i8}
    {wc : Vec Ideal ⟨2, ![1152, 2880]⟩ .fp8e4m3} {ws : Vec Ideal ⟨2, ![36, 2880]⟩ .i8}

/-- An index of three axes from its coordinates. -/
theorem ix3_of {n k l : ℕ} (y : (⟨3, ![n, k, l]⟩ : Shape).Idx) {a b c : ℕ} (ha : a < n) (hb : b < k) (hc : c < l)
    (h0 : (y (0 : Fin 3)).val = a) (h1 : (y (1 : Fin 3)).val = b) (h2 : (y (2 : Fin 3)).val = c) : y = ix3 ⟨a, ha⟩ ⟨b, hb⟩ ⟨c, hc⟩ := by
  subst h0; subst h1; subst h2; exact eq_ix3 y
theorem ix2_of {n k : ℕ} (y : (⟨2, ![n, k]⟩ : Shape).Idx) {a b : ℕ} (ha : a < n) (hb : b < k)
    (h0 : (y (0 : Fin 2)).val = a) (h1 : (y (1 : Fin 2)).val = b) : y = ix2 ⟨a, ha⟩ ⟨b, hb⟩ := by
  subst h0; subst h1; exact eq_ix2 y

theorem inp_D (y : (⟨3, ![8, 2048, 1152]⟩ : Shape).Idx) {R n : ℕ} (hR : R = 2048 * (y (0 : Fin 3)).val + (y (1 : Fin 3)).val) (hn : n = (y (2 : Fin 3)).val) :
    (inpOf dy xc xs wc ws).D R n = dy y := by
  have h0 : (y (0 : Fin 3)).val < 8 := (y (0 : Fin 3)).isLt
  have h1 : (y (1 : Fin 3)).val < 2048 := (y (1 : Fin 3)).isLt
  have h2 : (y (2 : Fin 3)).val < 1152 := (y (2 : Fin 3)).isLt
  show (if h : R < 16384 ∧ n < 1152 then _ else _) = _
  rw [dif_pos (by omega)]
  exact congrArg dy (ix3_of y _ _ _ (by omega) (by omega) (by omega)).symm
theorem inp_XC (y : (⟨3, ![8, 2048, 2880]⟩ : Shape).Idx) {R n : ℕ} (hR : R = 2048 * (y (0 : Fin 3)).val + (y (1 : Fin 3)).val) (hn : n = (y (2 : Fin 3)).val) :
    (inpOf dy xc xs wc ws).XC R n = xc y := by
  have h0 : (y (0 : Fin 3)).val < 8 := (y (0 : Fin 3)).isLt
  have h1 : (y (1 : Fin 3)).val < 2048 := (y (1 : Fin 3)).isLt
  have h2 : (y (2 : Fin 3)).val < 2880 := (y (2 : Fin 3)).isLt
  show (if h : R < 16384 ∧ n < 2880 then _ else _) = _
  rw [dif_pos (by omega)]
  exact congrArg xc (ix3_of y _ _ _ (by omega) (by omega) (by omega)).symm
theorem inp_XS (y : (⟨3, ![8, 64, 2880]⟩ : Shape).Idx) {R n : ℕ} (hR : R = 64 * (y (0 : Fin 3)).val + (y (1 : Fin 3)).val) (hn : n = (y (2 : Fin 3)).val) :
    (inpOf dy xc xs wc ws).XS R n = xs y := by
  have h0 : (y (0 : Fin 3)).val < 8 := (y (0 : Fin 3)).isLt
  have h1 : (y (1 : Fin 3)).val < 64 := (y (1 : Fin 3)).isLt
  have h2 : (y (2 : Fin 3)).val < 2880 := (y (2 : Fin 3)).isLt
  show (if h : R < 512 ∧ n < 2880 then _ else _) = _
  rw [dif_pos (by omega)]
  exact congrArg xs (ix3_of y _ _ _ (by omega) (by omega) (by omega)).symm
theorem inp_WC (y : (⟨2, ![1152, 2880]⟩ : Shape).Idx) {n d : ℕ} (hn : n = (y (0 : Fin 2)).val) (hd : d = (y (1 : Fin 2)).val) :
    (inpOf dy xc xs wc ws).WC n d = wc y := by
  have h0 : (y (0 : Fin 2)).val < 1152 := (y (0 : Fin 2)).isLt
  have h1 : (y (1 : Fin 2)).val < 2880 := (y (1 : Fin 2)).isLt
  show (if h : n < 1152 ∧ d < 2880 then _ else _) = _
  rw [dif_pos (by omega)]
  exact congrArg wc (ix2_of y _ _ (by omega) (by omega)).symm
theorem inp_WS (y : (⟨2, ![36, 2880]⟩ : Shape).Idx) {n d : ℕ} (hn : n = (y (0 : Fin 2)).val) (hd : d = (y (1 : Fin 2)).val) :
    (inpOf dy xc xs wc ws).WS n d = ws y := by
  have h0 : (y (0 : Fin 2)).val < 36 := (y (0 : Fin 2)).isLt
  have h1 : (y (1 : Fin 2)).val < 2880 := (y (1 : Fin 2)).isLt
  show (if h : n < 36 ∧ d < 2880 then _ else _) = _
  rw [dif_pos (by omega)]
  exact congrArg ws (ix2_of y _ _ (by omega) (by omega)).symm

end Cert.Mx

namespace Cert.KernelIdeal.Hand

open Cert.KernelIdeal.Gen Idealize.ShloMosaic Idealize.ShloMosaic.TcCoe Cert.Mx

variable (m : (ℓ : Loc nD τ sig) → Buf (Elt Ideal) ℓ)

/-- The inputs in core `c`'s memory. -/
def inp (c : Dev nD) : Inp :=
  inpOf (m ((c : Thread nD τ).loc main_arg0)) (m ((c : Thread nD τ).loc main_arg1)) (m ((c : Thread nD τ).loc main_arg2))
    (m ((c : Thread nD τ).loc main_arg3)) (m ((c : Thread nD τ).loc main_arg4))

theorem eoff_t : ∀ t : Fin cfg0.N, ∀ r, eoff (grid0.coords t) r = 4 * (t.val % 4) + r.val :=
  (by decide +kernel : ∀ t : Fin grid0.N, ∀ r, eoff (grid0.coords t) r = 4 * (t.val % 4) + r.val)
theorem woff_t : ∀ t : Fin cfg0.N, woff (grid0.coords t) = 16 * (t.val % 4) :=
  (by decide +kernel : ∀ t : Fin grid0.N, woff (grid0.coords t) = 16 * (t.val % 4))

theorem offs_t (t : Fin cfg0.N) : Offs t.val (grid0.coords t) := ⟨eoff_t t, woff_t t⟩

theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, t.val % 4, 0] :=
  (by decide +kernel : ∀ t : Fin grid0.N, win0_1.index t = ![t.val / 4, t.val % 4, 0])
theorem idx2 : ∀ t : Fin cfg0.N, win0_2.index t = ![t.val / 4, 0, 0] :=
  (by decide +kernel : ∀ t : Fin grid0.N, win0_2.index t = ![t.val / 4, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])

/-- The blocks a point loads are the inputs' at its rows. -/
theorem blk_t (c : Dev nD) (t : Fin cfg0.N) : Blk (inp m c) t.val (iblk m c 0 t) (iblk m c 1 t) (iblk m c 2 t) (iblk m c 3 t) (iblk m c 4 t) := by
  refine ⟨fun y => ?_, fun y => ?_, fun y => ?_, fun y => ?_, fun y => ?_⟩
  · have h0 : (y (0 : Fin 3)).val < 1 := (y (0 : Fin 3)).isLt
    have e0 : (((cfg0.win 0).blk t).view.emb y (0 : Fin 3)).val = win0_0.index t (0 : Fin 3) * 1 + 1 * (y (0 : Fin 3)).val := rfl
    have e1 : (((cfg0.win 0).blk t).view.emb y (1 : Fin 3)).val = win0_0.index t (1 : Fin 3) * 512 + 1 * (y (1 : Fin 3)).val := rfl
    have e2 : (((cfg0.win 0).blk t).view.emb y (2 : Fin 3)).val = win0_0.index t (2 : Fin 3) * 1152 + 1 * (y (2 : Fin 3)).val := rfl
    have i0 : win0_0.index t (0 : Fin 3) = t.val / 4 := congrFun (idx0 t) 0
    have i1 : win0_0.index t (1 : Fin 3) = t.val % 4 := congrFun (idx0 t) 1
    have i2 : win0_0.index t (2 : Fin 3) = 0 := congrFun (idx0 t) 2
    exact (inp_D (((cfg0.win 0).blk t).view.emb y) (by omega) (by omega)).symm
  · have h0 : (y (0 : Fin 3)).val < 1 := (y (0 : Fin 3)).isLt
    have e0 : (((cfg0.win 1).blk t).view.emb y (0 : Fin 3)).val = win0_1.index t (0 : Fin 3) * 1 + 1 * (y (0 : Fin 3)).val := rfl
    have e1 : (((cfg0.win 1).blk t).view.emb y (1 : Fin 3)).val = win0_1.index t (1 : Fin 3) * 512 + 1 * (y (1 : Fin 3)).val := rfl
    have e2 : (((cfg0.win 1).blk t).view.emb y (2 : Fin 3)).val = win0_1.index t (2 : Fin 3) * 2880 + 1 * (y (2 : Fin 3)).val := rfl
    have i0 : win0_1.index t (0 : Fin 3) = t.val / 4 := congrFun (idx1 t) 0
    have i1 : win0_1.index t (1 : Fin 3) = t.val % 4 := congrFun (idx1 t) 1
    have i2 : win0_1.index t (2 : Fin 3) = 0 := congrFun (idx1 t) 2
    exact (inp_XC (((cfg0.win 1).blk t).view.emb y) (by omega) (by omega)).symm
  · have h0 : (y (0 : Fin 3)).val < 1 := (y (0 : Fin 3)).isLt
    have e0 : (((cfg0.win 2).blk t).view.emb y (0 : Fin 3)).val = win0_2.index t (0 : Fin 3) * 1 + 1 * (y (0 : Fin 3)).val := rfl
    have e1 : (((cfg0.win 2).blk t).view.emb y (1 : Fin 3)).val = win0_2.index t (1 : Fin 3) * 64 + 1 * (y (1 : Fin 3)).val := rfl
    have e2 : (((cfg0.win 2).blk t).view.emb y (2 : Fin 3)).val = win0_2.index t (2 : Fin 3) * 2880 + 1 * (y (2 : Fin 3)).val := rfl
    have i0 : win0_2.index t (0 : Fin 3) = t.val / 4 := congrFun (idx2 t) 0
    have i1 : win0_2.index t (1 : Fin 3) = 0 := congrFun (idx2 t) 1
    have i2 : win0_2.index t (2 : Fin 3) = 0 := congrFun (idx2 t) 2
    exact (inp_XS (((cfg0.win 2).blk t).view.emb y) (by omega) (by omega)).symm
  · have e0 : (((cfg0.win 3).blk t).view.emb y (0 : Fin 2)).val = win0_3.index t (0 : Fin 2) * 1152 + 1 * (y (0 : Fin 2)).val := rfl
    have e1 : (((cfg0.win 3).blk t).view.emb y (1 : Fin 2)).val = win0_3.index t (1 : Fin 2) * 2880 + 1 * (y (1 : Fin 2)).val := rfl
    have i0 : win0_3.index t (0 : Fin 2) = 0 := congrFun (idx3 t) 0
    have i1 : win0_3.index t (1 : Fin 2) = 0 := congrFun (idx3 t) 1
    exact (inp_WC (((cfg0.win 3).blk t).view.emb y) (by omega) (by omega)).symm
  · have e0 : (((cfg0.win 4).blk t).view.emb y (0 : Fin 2)).val = win0_4.index t (0 : Fin 2) * 36 + 1 * (y (0 : Fin 2)).val := rfl
    have e1 : (((cfg0.win 4).blk t).view.emb y (1 : Fin 2)).val = win0_4.index t (1 : Fin 2) * 2880 + 1 * (y (1 : Fin 2)).val := rfl
    have i0 : win0_4.index t (0 : Fin 2) = 0 := congrFun (idx4 t) 0
    have i1 : win0_4.index t (1 : Fin 2) = 0 := congrFun (idx4 t) 1
    exact (inp_WS (((cfg0.win 4).blk t).view.emb y) (by omega) (by omega)).symm

/-! ## What the point before left, at the same run of four points -/

variable {I : Inp} {t : ℕ}

theorem gX_pred (h : t % 4 ≠ 0) : gX I (t - 1) = gX I t := by
  unfold gX; rw [show (t - 1) / 4 = t / 4 by omega]
theorem CE_pred {e} (h : t % 4 ≠ 0) (he : CE I (t - 1) e) : CE' I t e := fun y hy => by
  rw [he y (by omega)]; unfold gCE; rw [show (t - 1) / 4 = t / 4 by omega]
theorem CE_first {e} (h : t % 4 = 0) : CE' I t e := fun y hy => by omega

end Cert.KernelIdeal.Hand

end
-- ==== Proof.RefValue.lean ====
module

public import proofs.«01_k».proof.Proof.RefRun
public import proofs.«01_k».proof.Proof.Groups
public import proofs.«01_k».proof.Proof.Point

@[expose] public section

set_option maxRecDepth 16384

noncomputable section

/-! # The reference's values, at an index -/

namespace Cert.ReferenceIdeal.Hand

open Cert.ReferenceIdeal.Gen Idealize.ShloMosaic Cert.Mx

section Pointwise
variable {S : Shape}

/-- The exponents of the groups whose largest magnitudes are `x`, -/
def eV (x : FVec Ideal S .f32) : IVec S 32 :=
  select (cmpf .oeq x (broadcast S (Scalar.ofBits .f32 0x00000000#32))) (broadcast S 0#32) (select (andi (cmpf .oge (mulf x (broadcast S (Scalar.ofBits .f32 0x3B124925#32))) (broadcast S (Scalar.ofBits .f32 0x00800000#32)))
      (cmpf .olt (mulf x (broadcast S (Scalar.ofBits .f32 0x3B124925#32))) (broadcast S (Scalar.ofBits .f32 0x7F800000#32))))
    (addi (fptosi 32 (floor (divf (log (mulf x (broadcast S (Scalar.ofBits .f32 0x3B124925#32))))
      (log (broadcast S (Scalar.ofBits (F := Ideal) .f32 0x40000000#32)))))) (broadcast S 1#32)) (broadcast S 0#32))

/-- the powers of two of exponents `e`, -/
def pV (e : IVec S 32) : FVec Ideal S .f32 :=
  select (cmpi .slt e (broadcast S 4294967170#32)) (broadcast S (Scalar.ofBits .f32 0x00000000#32))
    (select (cmpi .sgt e (broadcast S 127#32)) (broadcast S (Scalar.ofBits .f32 0x7F800000#32)) (exp2 (sitofp .f32 e)))

/-- and the codes of `x` under scales `s`. -/
def cV (x s : FVec Ideal S .f32) : FVec Ideal S .f32 :=
  minimumf (broadcast S (Scalar.ofBits .f32 0x43E00000#32)) (maximumf (broadcast S (Scalar.ofBits .f32 0xC3E00000#32)) (mulf x s))

theorem eV_at (x : FVec Ideal S .f32) (y : S.Idx) : eV x y = eR (x y * Ideal.ofBits FTy.f32 991054117#32) := eR_zero (x y)
theorem pV_at (e : IVec S 32) (y : S.Idx) : pV e y = ldex (e y) := rfl
theorem cV_at (x s : FVec Ideal S .f32) (y : S.Idx) : cV x s y = code (x y) (s y) := rfl

end Pointwise

/-- The largest magnitude of each group of a row, -/
def rowMax (D : Vec Ideal S8x2048x1152 .bf16) : FVec Ideal S8x2048x36 .f32 :=
  multiReduction .maximumf [3] S8x2048x36 (absf (k0_pay3 D)) 0xFF800000#32 reduces_S8x2048x36x32_S8x2048x36 (.inl rfl) rfl

theorem pay3_at (D : Vec Ideal S8x2048x1152 .bf16) (b : Fin 8) (i : Fin 2048) (g : Fin 36) (k : Fin 32) :
    k0_pay3 D (ix4 b i g k) = D (ix3 b i ⟨g.val * 32 + k.val, by omega⟩) := by
  pointwise [k0_pay3, k0_pay2]

theorem rowMax_at (D : Vec Ideal S8x2048x1152 .bf16) (b : Fin 8) (i : Fin 2048) (g : Fin 36) :
    rowMax D (ix3 b i g) = amax fun k => D (ix3 b i ⟨g.val * 32 + k.val, by omega⟩) := by
  rw [amax]
  simp only [← pay3_at D b i g]
  unfold rowMax
  generalize k0_pay3 D = x
  pointwise []

theorem rowE_at (D : Vec Ideal S8x2048x1152 .bf16) (b : Fin 8) (i : Fin 2048) (g : Fin 36) (z : Fin 1) :
    k0_pay4 D (ix4 b i g z) = eR ((amax fun k => D (ix3 b i ⟨g.val * 32 + k.val, by omega⟩)) * Ideal.ofBits FTy.f32 991054117#32) := by
  have h : shapeCast S8x2048x36x1 (rowMax D) shapeCasts_S8x2048x36_S8x2048x36x1 (ix4 b i g z) = rowMax D (ix3 b i g) := by
    generalize rowMax D = x
    pointwise []
  have e : k0_pay4 D = eV (shapeCast S8x2048x36x1 (rowMax D) shapeCasts_S8x2048x36_S8x2048x36x1) := rfl
  rw [e, eV_at, h, rowMax_at]

/-- The row codes, -/
def rowC (D : Vec Ideal S8x2048x1152 .bf16) : FVec Ideal S8x2048x1152 .fp8e4m3 :=
  k0_pay6 (k0_pay5 D) (Scalar.ofBits .f32 0xC3E00000#32) (Scalar.ofBits .f32 0x43E00000#32)

/-- at an index. -/
theorem rowC_at (D : Vec Ideal S8x2048x1152 .bf16) (b : Fin 8) (i : Fin 2048) (n : Fin 1152) :
    rowC D (ix3 b i n) = code (D (ix3 b i n)) (ldex (IntOp.subi (0#32) (k0_pay4 D (ix4 b i ⟨n.val / 32, by omega⟩ 0)))) := by
  have e : rowC D = shapeCast S8x2048x1152 (truncf .fp8e4m3 (cV (k0_pay3 D) (broadcastTo S8x2048x36x32
      (pV (subi (broadcast S8x2048x36x1 0#32) (k0_pay4 D))) broadcasts_S8x2048x36x1_S8x2048x36x32)) bitsLt_fp8e4m3_f32)
      shapeCasts_S8x2048x36x32_S8x2048x1152 := rfl
  have h := pay3_at D b i ⟨n.val / 32, by omega⟩ ⟨n.val % 32, by omega⟩
  have hn : (⟨n.val / 32 * 32 + n.val % 32, by omega⟩ : Fin 1152) = n := Fin.ext (by show n.val / 32 * 32 + n.val % 32 = n.val; omega)
  simp only [hn] at h
  rw [e, ← h]
  generalize k0_pay3 D = x
  generalize hp : subi (broadcast S8x2048x36x1 0#32) (k0_pay4 D) = q
  have hq : ∀ y, q y = IntOp.subi (0#32) (k0_pay4 D y) := fun y => by rw [← hp]; rfl
  rw [← hq, ← pV_at]
  generalize pV q = s
  have hc : ∀ (z : FVec Ideal S8x2048x36x32 .f32), shapeCast S8x2048x1152 (truncf .fp8e4m3 z bitsLt_fp8e4m3_f32)
      shapeCasts_S8x2048x36x32_S8x2048x1152 (ix3 b i n) = z (ix4 b i ⟨n.val / 32, by omega⟩ ⟨n.val % 32, by omega⟩) := fun z => by
    pointwise []
  rw [hc, cV_at]
  pointwise []

/-- The largest magnitude of each group of a column, -/
def colMax (D : FVec Ideal S8x2048x1152 .f32) : FVec Ideal S8x64x1152 .f32 :=
  multiReduction .maximumf [2] S8x64x1152 (absf (k0_pay8 D)) 0xFF800000#32 reduces_S8x64x32x1152_S8x64x1152 (.inl rfl) rfl

theorem pay8_at (D : FVec Ideal S8x2048x1152 .f32) (b : Fin 8) (G : Fin 64) (k : Fin 32) (n : Fin 1152) :
    k0_pay8 D (ix4 b G k n) = D (ix3 b ⟨G.val * 32 + k.val, by omega⟩ n) := by
  pointwise [k0_pay8]

theorem colMax_at (D : FVec Ideal S8x2048x1152 .f32) (b : Fin 8) (G : Fin 64) (n : Fin 1152) :
    colMax D (ix3 b G n) = amax fun k => D (ix3 b ⟨G.val * 32 + k.val, by omega⟩ n) := by
  rw [amax]
  simp only [← pay8_at D b G]
  unfold colMax
  generalize k0_pay8 D = x
  pointwise []

theorem colE_at (D : FVec Ideal S8x2048x1152 .f32) (b : Fin 8) (G : Fin 64) (z : Fin 1) (n : Fin 1152) :
    k0_pay9 D (ix4 b G z n) = eR ((amax fun k => D (ix3 b ⟨G.val * 32 + k.val, by omega⟩ n)) * Ideal.ofBits FTy.f32 991054117#32) := by
  have h : shapeCast S8x64x1x1152 (colMax D) shapeCasts_S8x64x1152_S8x64x1x1152 (ix4 b G z n) = colMax D (ix3 b G n) := by
    generalize colMax D = x
    pointwise []
  have e : k0_pay9 D = eV (shapeCast S8x64x1x1152 (colMax D) shapeCasts_S8x64x1152_S8x64x1x1152) := rfl
  rw [e, eV_at, h, colMax_at]

/-- The column codes, -/
def colC (D : FVec Ideal S8x2048x1152 .f32) : FVec Ideal S8x2048x1152 .fp8e4m3 :=
  k0_pay13 (k0_pay8 D) (k0_pay11 D) (k0_pay12 D) (Scalar.ofBits .f32 0x00000000#32)

/-- at an index. -/
theorem colC_at (D : FVec Ideal S8x2048x1152 .f32) (b : Fin 8) (i : Fin 2048) (n : Fin 1152) :
    colC D (ix3 b i n) = code (D (ix3 b i n)) (ldex (IntOp.subi (0#32) (k0_pay9 D (ix4 b ⟨i.val / 32, by omega⟩ 0 n)))) := by
  have e : colC D = shapeCast S8x2048x1152 (truncf .fp8e4m3 (cV (k0_pay8 D) (broadcastTo S8x64x32x1152
      (pV (subi (broadcast S8x64x1x1152 0#32) (k0_pay9 D))) broadcasts_S8x64x1x1152_S8x64x32x1152)) bitsLt_fp8e4m3_f32)
      shapeCasts_S8x64x32x1152_S8x2048x1152 := rfl
  have h := pay8_at D b ⟨i.val / 32, by omega⟩ ⟨i.val % 32, by omega⟩ n
  have hn : (⟨i.val / 32 * 32 + i.val % 32, by omega⟩ : Fin 2048) = i := Fin.ext (by show i.val / 32 * 32 + i.val % 32 = i.val; omega)
  simp only [hn] at h
  rw [e, ← h]
  generalize k0_pay8 D = x
  generalize hp : subi (broadcast S8x64x1x1152 0#32) (k0_pay9 D) = q
  have hq : ∀ y, q y = IntOp.subi (0#32) (k0_pay9 D y) := fun y => by rw [← hp]; rfl
  rw [← hq, ← pV_at]
  generalize pV q = s
  have hc : ∀ (z : FVec Ideal S8x64x32x1152 .f32), shapeCast S8x2048x1152 (truncf .fp8e4m3 z bitsLt_fp8e4m3_f32)
      shapeCasts_S8x64x32x1152_S8x2048x1152 (ix3 b i n) = z (ix4 b ⟨i.val / 32, by omega⟩ ⟨i.val % 32, by omega⟩ n) := fun z => by
    pointwise []
  rw [hc, cV_at]
  pointwise []

/-- The scales, with the bias, as stored. -/
theorem rowS_at (e : IVec S8x2048x36x1 32) (b : Fin 8) (i : Fin 2048) (g : Fin 36) :
    k0_pay7 e (ix3 b i g) = BitVec.setWidth 8 (IntOp.addi (e (ix4 b i g 0)) 127#32) := by
  have h : shapeCast S8x2048x36 e shapeCasts_S8x2048x36x1_S8x2048x36 (ix3 b i g) = e (ix4 b i g 0) := by
    pointwise []
  rw [← h]; rfl
theorem colS_at (e : IVec S8x64x1x1152 32) (b : Fin 8) (G : Fin 64) (n : Fin 1152) :
    k0_pay14 e (ix3 b G n) = BitVec.setWidth 8 (IntOp.addi (e (ix4 b G 0 n)) 127#32) := by
  have h : shapeCast S8x64x1152 e shapeCasts_S8x64x1x1152_S8x64x1152 (ix3 b G n) = e (ix4 b G 0 n) := by
    pointwise []
  rw [← h]; rfl

/-- The weights, widened, -/
def wideW (q : Vec Ideal S1152x2880 .fp8e4m3) (s : Vec Ideal S36x2880 .i8) : FVec Ideal S1152x2880 .bf16 :=
  shapeCast S1152x2880 (mulf (shapeCast S36x32x2880 (extf .bf16 q bitsLt_fp8e4m3_bf16) shapeCasts_S1152x2880_S36x32x2880)
    (broadcastTo S36x32x2880 (shapeCast S36x1x2880 (truncf .bf16 (pV (subi (extui 32 s natLt_8_32) (broadcast S36x2880 127#32))) bitsLt_bf16_f32)
      shapeCasts_S36x2880_S36x1x2880) broadcasts_S36x1x2880_S36x32x2880)) shapeCasts_S36x32x2880_S1152x2880

/-- at an index. -/
theorem wide_w_at (q : Vec Ideal S1152x2880 .fp8e4m3) (s : Vec Ideal S36x2880 .i8) (n : Fin 1152) (d : Fin 2880) :
    wideW q s (ix2 n d) = q (ix2 n d) * ldex (IntOp.subi (BitVec.setWidth 32 (s (ix2 ⟨n.val / 32, by omega⟩ d))) 127#32) := by
  rw [wideW, show IntOp.subi (BitVec.setWidth 32 (s (ix2 ⟨n.val / 32, by omega⟩ d))) 127#32
    = (subi (extui 32 s natLt_8_32) (broadcast S36x2880 127#32)) (ix2 ⟨n.val / 32, by omega⟩ d) from rfl, ← pV_at]
  generalize pV (subi (extui 32 s natLt_8_32) (broadcast S36x2880 127#32)) = p
  pointwise []

/-- The rows of the gradient, widened. -/
theorem wide_r_at (q : FVec Ideal S8x2048x1152 .fp8e4m3) (s : IVec S8x2048x36 8) (b : Fin 8) (i : Fin 2048) (n : Fin 1152) :
    k0_pay15 q s (ix3 b i n) = q (ix3 b i n)
      * ldex (IntOp.subi (BitVec.setWidth 32 (s (ix3 b i ⟨n.val / 32, by omega⟩))) 127#32) := by
  have e : k0_pay15 q s = shapeCast S8x2048x1152 (mulf (shapeCast S8x2048x36x32 (extf .bf16 q bitsLt_fp8e4m3_bf16) shapeCasts_S8x2048x1152_S8x2048x36x32)
      (broadcastTo S8x2048x36x32 (shapeCast S8x2048x36x1 (truncf .bf16 (pV (subi (extui 32 s natLt_8_32) (broadcast S8x2048x36 127#32))) bitsLt_bf16_f32)
        shapeCasts_S8x2048x36_S8x2048x36x1) broadcasts_S8x2048x36x1_S8x2048x36x32)) shapeCasts_S8x2048x36x32_S8x2048x1152 := rfl
  rw [e, show IntOp.subi (BitVec.setWidth 32 (s (ix3 b i ⟨n.val / 32, by omega⟩))) 127#32
    = (subi (extui 32 s natLt_8_32) (broadcast S8x2048x36 127#32)) (ix3 b i ⟨n.val / 32, by omega⟩) from rfl, ← pV_at]
  generalize pV (subi (extui 32 s natLt_8_32) (broadcast S8x2048x36 127#32)) = p
  pointwise []

/-- The columns of the gradient, widened. -/
theorem wide_c_at (q : FVec Ideal S8x2048x1152 .fp8e4m3) (s : IVec S8x64x1152 8) (b : Fin 8) (i : Fin 2048) (n : Fin 1152) :
    k0_pay21 q s (ix3 b i n) = q (ix3 b i n) * ldex (IntOp.subi (BitVec.setWidth 32 (s (ix3 b ⟨i.val / 32, by omega⟩ n))) 127#32) := by
  have e : k0_pay21 q s = shapeCast S8x2048x1152 (mulf (shapeCast S8x64x32x1152 (extf .bf16 q bitsLt_fp8e4m3_bf16) shapeCasts_S8x2048x1152_S8x64x32x1152)
      (broadcastTo S8x64x32x1152 (shapeCast S8x64x1x1152 (truncf .bf16 (pV (subi (extui 32 s natLt_8_32) (broadcast S8x64x1152 127#32))) bitsLt_bf16_f32)
        shapeCasts_S8x64x1152_S8x64x1x1152) broadcasts_S8x64x1x1152_S8x64x32x1152)) shapeCasts_S8x64x32x1152_S8x2048x1152 := rfl
  rw [e, show IntOp.subi (BitVec.setWidth 32 (s (ix3 b ⟨i.val / 32, by omega⟩ n))) 127#32
    = (subi (extui 32 s natLt_8_32) (broadcast S8x64x1152 127#32)) (ix3 b ⟨i.val / 32, by omega⟩ n) from rfl, ← pV_at]
  generalize pV (subi (extui 32 s natLt_8_32) (broadcast S8x64x1152 127#32)) = p
  pointwise []

/-- The activations, widened, -/
def wideX (q : Vec Ideal S8x2048x2880 .fp8e4m3) (s : Vec Ideal S8x64x2880 .i8) : FVec Ideal S8x2048x2880 .bf16 :=
  shapeCast S8x2048x2880 (mulf (k0_pay22 q)
    (broadcastTo S8x64x32x2880 (shapeCast S8x64x1x2880 (truncf .bf16 (pV (subi (extui 32 s natLt_8_32) (broadcast S8x64x2880 127#32))) bitsLt_bf16_f32)
      shapeCasts_S8x64x2880_S8x64x1x2880) broadcasts_S8x64x1x2880_S8x64x32x2880)) shapeCasts_S8x64x32x2880_S8x2048x2880

/-- at an index. -/
theorem wideX_at (q : Vec Ideal S8x2048x2880 .fp8e4m3) (s : Vec Ideal S8x64x2880 .i8) (b : Fin 8) (i : Fin 2048) (d : Fin 2880) :
    wideX q s (ix3 b i d) = q (ix3 b i d) * ldex (IntOp.subi (BitVec.setWidth 32 (s (ix3 b ⟨i.val / 32, by omega⟩ d))) 127#32) := by
  rw [wideX, show IntOp.subi (BitVec.setWidth 32 (s (ix3 b ⟨i.val / 32, by omega⟩ d))) 127#32
    = (subi (extui 32 s natLt_8_32) (broadcast S8x64x2880 127#32)) (ix3 b ⟨i.val / 32, by omega⟩ d) from rfl, ← pV_at]
  generalize pV (subi (extui 32 s natLt_8_32) (broadcast S8x64x2880 127#32)) = p
  pointwise [k0_pay22]

/-- The product with the weights, -/
theorem dx_at (q : Vec Ideal S1152x2880 .fp8e4m3) (s : Vec Ideal S36x2880 .i8) (r : FVec Ideal S8x2048x1152 .bf16) (b : Fin 8) (i : Fin 2048) (d : Fin 2880) :
    k0_pay20 r (k0_pay16 q) (k0_pay17 s) (k0_pay18 s) (k0_pay19 s) 127#32 (ix3 b i d)
      = ∑ n : Fin 1152, r (ix3 b i n) * wideW q s (ix2 n d) := by
  have e : k0_pay20 r (k0_pay16 q) (k0_pay17 s) (k0_pay18 s) (k0_pay19 s) 127#32
    = truncf .bf16 (matmul dot_S8x2048x1152_S1152x2880_S8x2048x2880_2_0_01_1_n_n none r (wideW q s)
        (constant S8x2048x2880 .f32 0x00000000#32)) bitsLt_bf16_f32 := rfl
  rw [e]
  generalize wideW q s = x
  pointwise []

/-- and the product with the activations. -/
theorem dw_at (c : FVec Ideal S8x2048x1152 .bf16) (q : Vec Ideal S8x2048x2880 .fp8e4m3) (s : Vec Ideal S8x64x2880 .i8) (n : Fin 1152) (d : Fin 2880) :
    k0_pay1 c (k0_pay22 q) (k0_pay23 s) (ix2 n d)
      = ∑ b : Fin 8, ∑ i : Fin 2048, c (ix3 b i n) * wideX q s (ix3 b i d) := by
  have e : k0_pay1 c (k0_pay22 q) (k0_pay23 s) = matmul dot_S8x2048x1152_S8x2048x2880_S1152x2880_01_01_2_2_n_n none
      c (wideX q s) (constant S1152x2880 .f32 0x00000000#32) := rfl
  rw [e]
  generalize wideX q s = x
  pointwise []

end Cert.ReferenceIdeal.Hand

end
-- ==== Proof.RunA.lean ====
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5348000 in
/-- What the body's stores leave in each output's staging memref, as pieces (last first) IN CASE A (`scf.if` 0 taken, `scf.if` 1 taken, `scf.if` 2 not taken: points 0), WITH the
    proof that on whole staging memrefs — the inputs' at their contents, the outputs it leaves idle (10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : cond0_0 i) (hc1 : cond0_1 i) (hc2 : ¬cond0_2 i)
    (x0 : Vec F S1x512x1152 .bf16) (x1 : Vec F S1x512x2880 .fp8e4m3) (x2 : Vec F S1x64x2880 .i8) (x3 : Vec F S1152x2880 .fp8e4m3) (x4 : Vec F S36x2880 .i8) :
    Σ' (L5 : List (View.Piece (Elt F) S1x512x2880 .bf16)), Σ' (L6 : List (View.Piece (Elt F) S1152x2880 .f32)), Σ' (L7 : List (View.Piece (Elt F) S1x512x1152 .fp8e4m3)), Σ' (L8 : List (View.Piece (Elt F) S1x512x36 .i8)), Σ' (L9 : List (View.Piece (Elt F) S1x512x1152 .fp8e4m3)), Σ' (L10 : List (View.Piece (Elt F) S1x64x1152 .i8)), Σ' (LS0 : List (View.Piece (Elt F) S1152x2880 .bf16)), Σ' (LS3 : List (View.Piece (Elt F) S64x2880 .i32)), Σ' (LS4 : List (View.Piece (Elt F) S16x4x1152 .i32)), Σ' (LT1 : List (View.Piece (Elt F) S512x1152 .bf16)), { LT2 : List (View.Piece (Elt F) S1152x512 .bf16) //
      ∀ (xi10 : Vec F S1x64x1152 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4)) -∗ K ⟨⟩))
          ⊢ wp frame (wpE (defs₀ (F := F)) Variants.none c none) E (cc0_mx_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, [], ?_, ?_, ?_, ?_, ?_, fun xi10 E K => ?run⟩
  case run =>
    simp only [cc0_mx_linear_bwd_eq_skeleton]; unfold cc0_mx_linear_bwd_skel
    simp only [k0_part116_eq_skeleton, k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part117_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]
    · iexists _; isplitr; · ipureintro; exact harg11.read_unread _
      iexact H10
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.PiecesA.lean ====
module

public import proofs.«01_k».proof.Proof.RunA
public import proofs.«01_k».proof.Proof.Chunk

@[expose] public section

set_option maxRecDepth 16384

noncomputable section

/-! # The stores found by the run of case A are the lists of the chunks -/

namespace Cert.KernelIdeal.Hand

open Cert.KernelIdeal.Gen Idealize.ShloMosaic

variable {F : FTy → Type} [FloatOps F]
variable (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : cond0_0 i) (hc1 : cond0_1 i) (hc2 : ¬cond0_2 i)
  (x0 : Vec F S1x512x1152 .bf16) (x1 : Vec F S1x512x2880 .fp8e4m3) (x2 : Vec F S1x64x2880 .i8) (x3 : Vec F S1152x2880 .fp8e4m3) (x4 : Vec F S36x2880 .i8)

theorem A_w0 : kernelRun0_A.sl.HS0_12 c arg4 harg4 arg5 harg5 x3 x4 = Lw (fun j => arg4.view.readAt (Elt F) (R2 1152 j).toLoadRect (harg4.unread x3)) (arg4.view.readAt (Elt F) (R2' 1152).toLoadRect (harg4.unread x3)) (fun j => arg5.view.readAt (Elt F) (R2 36 j).toLoadRect (harg5.unread x4)) (arg5.view.readAt (Elt F) (R2' 36).toLoadRect (harg5.unread x4)) := rfl
theorem A_x0 : kernelRun0_A.sl.HS3_12 (F := F) c arg3 harg3 x2 = Lx (fun j => arg3.view.readAt (Elt F) (R3 64 j).toLoadRect (harg3.unread x2)) (arg3.view.readAt (Elt F) (R3' 64).toLoadRect (harg3.unread x2)) := rfl
theorem A_rd0 : kernelRun0_A.sl.HS1_36 c arg1 harg1 x0 = Lrd (ldC arg1 harg1 x0) := rfl
theorem A_cd0 : kernelRun0_A.sl.HS2_36 c arg1 harg1 x0 = Lcd (ldC arg1 harg1 x0) := rfl
theorem A_dx0 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).1 = Ldx (arg13.view.readCov (kernelRun0_A.sl.HS1_36 c arg1 harg1 x0) Rrd.toLoadRect) (fun j => (arg12.view.readCov (kernelRun0_A.sl.HS0_12 c arg4 harg4 arg5 harg5 x3 x4) (R2 1152 j).toLoadRect)) (arg12.view.readCov (kernelRun0_A.sl.HS0_12 c arg4 harg4 arg5 harg5 x3 x4) (R2' 1152).toLoadRect) := rfl
theorem A_dx : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).1 = Ldx (arg13.view.readCov (Lrd (ldC arg1 harg1 x0)) Rrd.toLoadRect) (fun j => (arg12.view.readCov (Lw (fun j => arg4.view.readAt (Elt F) (R2 1152 j).toLoadRect (harg4.unread x3)) (arg4.view.readAt (Elt F) (R2' 1152).toLoadRect (harg4.unread x3)) (fun j => arg5.view.readAt (Elt F) (R2 36 j).toLoadRect (harg5.unread x4)) (arg5.view.readAt (Elt F) (R2' 36).toLoadRect (harg5.unread x4))) (R2 1152 j).toLoadRect)) (arg12.view.readCov (Lw (fun j => arg4.view.readAt (Elt F) (R2 1152 j).toLoadRect (harg4.unread x3)) (arg4.view.readAt (Elt F) (R2' 1152).toLoadRect (harg4.unread x3)) (fun j => arg5.view.readAt (Elt F) (R2 36 j).toLoadRect (harg5.unread x4)) (arg5.view.readAt (Elt F) (R2' 36).toLoadRect (harg5.unread x4))) (R2' 1152).toLoadRect) := by
  simp only [A_dx0, A_w0, A_x0, A_rd0, A_cd0]
theorem A_dw0 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.1 = ⟨R2' 1152, dwT' (arg2.view.readAt (Elt F) (R3' 512).toLoadRect (harg2.unread x1)) (arg15.view.readAt (Elt F) (RW' i).toLoadRect (arg15.view.writes (Elt F) arg15.view.junk (kernelRun0_A.sl.HS3_12 c arg3 harg3 x2))) (arg7.view.readCov (LdwA arg7 (fun j => arg2.view.readAt (Elt F) (R3 512 j).toLoadRect (harg2.unread x1)) (fun j => (arg15.view.readAt (Elt F) (RW i j).toLoadRect (arg15.view.writes (Elt F) arg15.view.junk (kernelRun0_A.sl.HS3_12 c arg3 harg3 x2)))) (arg14.view.readCov (kernelRun0_A.sl.HS2_36 c arg1 harg1 x0) Rcd.toLoadRect) 11 (le_refl _)) (R2' 1152).toLoadRect) (arg14.view.readCov (kernelRun0_A.sl.HS2_36 c arg1 harg1 x0) Rcd.toLoadRect)⟩ :: LdwA arg7 (fun j => arg2.view.readAt (Elt F) (R3 512 j).toLoadRect (harg2.unread x1)) (fun j => (arg15.view.readAt (Elt F) (RW i j).toLoadRect (arg15.view.writes (Elt F) arg15.view.junk (kernelRun0_A.sl.HS3_12 c arg3 harg3 x2)))) (arg14.view.readCov (kernelRun0_A.sl.HS2_36 c arg1 harg1 x0) Rcd.toLoadRect) 11 (le_refl _) := rfl
theorem A_dw : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.1 = ⟨R2' 1152, dwT' (arg2.view.readAt (Elt F) (R3' 512).toLoadRect (harg2.unread x1)) (arg15.view.readAt (Elt F) (RW' i).toLoadRect (arg15.view.writes (Elt F) arg15.view.junk (Lx (fun j => arg3.view.readAt (Elt F) (R3 64 j).toLoadRect (harg3.unread x2)) (arg3.view.readAt (Elt F) (R3' 64).toLoadRect (harg3.unread x2))))) (arg7.view.readCov (LdwA arg7 (fun j => arg2.view.readAt (Elt F) (R3 512 j).toLoadRect (harg2.unread x1)) (fun j => (arg15.view.readAt (Elt F) (RW i j).toLoadRect (arg15.view.writes (Elt F) arg15.view.junk (Lx (fun j => arg3.view.readAt (Elt F) (R3 64 j).toLoadRect (harg3.unread x2)) (arg3.view.readAt (Elt F) (R3' 64).toLoadRect (harg3.unread x2)))))) (arg14.view.readCov (Lcd (ldC arg1 harg1 x0)) Rcd.toLoadRect) 11 (le_refl _)) (R2' 1152).toLoadRect) (arg14.view.readCov (Lcd (ldC arg1 harg1 x0)) Rcd.toLoadRect)⟩ :: LdwA arg7 (fun j => arg2.view.readAt (Elt F) (R3 512 j).toLoadRect (harg2.unread x1)) (fun j => (arg15.view.readAt (Elt F) (RW i j).toLoadRect (arg15.view.writes (Elt F) arg15.view.junk (Lx (fun j => arg3.view.readAt (Elt F) (R3 64 j).toLoadRect (harg3.unread x2)) (arg3.view.readAt (Elt F) (R3' 64).toLoadRect (harg3.unread x2)))))) (arg14.view.readCov (Lcd (ldC arg1 harg1 x0)) Rcd.toLoadRect) 11 (le_refl _) := by
  simp only [A_dw0, A_w0, A_x0, A_rd0, A_cd0]
theorem A_rc : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.1 = Lrc (ldC arg1 harg1 x0) := rfl
theorem A_rs : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.1 = Lrs (ldC arg1 harg1 x0) := rfl
theorem A_cc : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.2.1 = Lcc (ldC arg1 harg1 x0) := rfl
theorem A_w : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.2.2.2.1 = Lw (fun j => arg4.view.readAt (Elt F) (R2 1152 j).toLoadRect (harg4.unread x3)) (arg4.view.readAt (Elt F) (R2' 1152).toLoadRect (harg4.unread x3)) (fun j => arg5.view.readAt (Elt F) (R2 36 j).toLoadRect (harg5.unread x4)) (arg5.view.readAt (Elt F) (R2' 36).toLoadRect (harg5.unread x4)) := rfl
theorem A_xw : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.2.2.2.2.1 = Lx (fun j => arg3.view.readAt (Elt F) (R3 64 j).toLoadRect (harg3.unread x2)) (arg3.view.readAt (Elt F) (R3' 64).toLoadRect (harg3.unread x2)) := rfl
theorem A_ce : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.2.2.2.2.2.1 = Lce i (ldC arg1 harg1 x0) := rfl
theorem A_rd : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.2.2.2.2.2.2.1 = Lrd (ldC arg1 harg1 x0) := rfl
theorem A_cd : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4).2.2.2.2.2.2.2.2.2.2.1 = Lcd (ldC arg1 harg1 x0) := rfl

end Cert.KernelIdeal.Hand

end
-- ==== Proof.RunB.lean ====
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4832000 in
/-- What the body's stores leave in each output's staging memref, as pieces (last first) IN CASE B (`scf.if` 0 not taken, `scf.if` 1 not taken, `scf.if` 2 not taken: points 1, 2, … 30: 16 of 32), WITH the
    proof that on whole staging memrefs — the inputs' at their contents, the outputs it reads before covering (6) at their running contents `xo·`, the outputs it leaves idle (10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : ¬cond0_0 i) (hc1 : ¬cond0_1 i) (hc2 : ¬cond0_2 i)
    (x0 : Vec F S1x512x1152 .bf16) (x1 : Vec F S1x512x2880 .fp8e4m3) (x2 : Vec F S1x64x2880 .i8) (x3 : Vec F S1152x2880 .fp8e4m3) (x4 : Vec F S36x2880 .i8) (xo6 : Vec F S1152x2880 .f32) (xs0 : Vec F S1152x2880 .bf16) (xs3 : Vec F S64x2880 .i32) :
    Σ' (L5 : List (View.Piece (Elt F) S1x512x2880 .bf16)), Σ' (L6 : List (View.Piece (Elt F) S1152x2880 .f32)), Σ' (L7 : List (View.Piece (Elt F) S1x512x1152 .fp8e4m3)), Σ' (L8 : List (View.Piece (Elt F) S1x512x36 .i8)), Σ' (L9 : List (View.Piece (Elt F) S1x512x1152 .fp8e4m3)), Σ' (L10 : List (View.Piece (Elt F) S1x64x1152 .i8)), Σ' (LS0 : List (View.Piece (Elt F) S1152x2880 .bf16)), Σ' (LS3 : List (View.Piece (Elt F) S64x2880 .i32)), Σ' (LS4 : List (View.Piece (Elt F) S16x4x1152 .i32)), Σ' (LT1 : List (View.Piece (Elt F) S512x1152 .bf16)), { LT2 : List (View.Piece (Elt F) S1152x512 .bf16) //
      ∀ (xi10 : Vec F S1x64x1152 .i8) (xs4 : Vec F S16x4x1152 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xi10 ∗ owns (c : Thread nD τ) arg12 fullShare xs0 ∗ (∃ d, owns (c : Thread nD τ) arg13 fullShare d) ∗ (∃ d, owns (c : Thread nD τ) arg14 fullShare d) ∗ owns (c : Thread nD τ) arg15 fullShare xs3 ∗ owns (c : Thread nD τ) arg16 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ owns (c : Thread nD τ) arg12 fullShare xs0 ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ owns (c : Thread nD τ) arg15 fullShare xs3 ∗ (arg16.view.loc (c : Thread nD τ) ↦[arg16.view.set]{fullShare} arg16.view.writes (Elt F) (harg16.unread xs4) LS4)) -∗ K ⟨⟩))
          ⊢ wp frame (wpE (defs₀ (F := F)) Variants.none c none) E (cc0_mx_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, [], [], [], ?_, ?_, ?_, fun xi10 xs4 E K => ?run⟩
  case run =>
    simp only [cc0_mx_linear_bwd_eq_skeleton]; unfold cc0_mx_linear_bwd_skel
    simp only [k0_part116_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part117_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%f10, %hf10, H10⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg11.eq_unread hf10; obtain rfl := harg12.eq_unread hfs0; obtain rfl := harg15.eq_unread hfs3; obtain rfl := harg16.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]
    · iexists _; isplitr; · ipureintro; exact harg11.read_unread _
      iexact H10
    isplitl [HS0]
    · iexists _; isplitr; · ipureintro; exact harg12.read_unread _
      iexact HS0
    isplitl [HS1]; · iexists _; iexact HS1
    isplitl [HS2]; · iexists _; iexact HS2
    isplitl [HS3]
    · iexists _; isplitr; · ipureintro; exact harg15.read_unread _
      iexact HS3
    iexact HS4

end Cert.KernelIdeal.Hand

end
-- ==== Proof.PiecesB.lean ====
module

public import proofs.«01_k».proof.Proof.RunB
public import proofs.«01_k».proof.Proof.Chunk

@[expose] public section

set_option maxRecDepth 16384

noncomputable section

/-! # The stores found by the run of case B are the lists of the chunks -/

namespace Cert.KernelIdeal.Hand

open Cert.KernelIdeal.Gen Idealize.ShloMosaic

variable {F : FTy → Type} [FloatOps F]
variable (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : ¬cond0_0 i) (hc1 : ¬cond0_1 i) (hc2 : ¬cond0_2 i)
  (x0 : Vec F S1x512x1152 .bf16) (x1 : Vec F S1x512x2880 .fp8e4m3) (x2 : Vec F S1x64x2880 .i8) (x3 : Vec F S1152x2880 .fp8e4m3) (x4 : Vec F S36x2880 .i8) (xo6 : Vec F S1152x2880 .f32) (xs0 : Vec F S1152x2880 .bf16) (xs3 : Vec F S64x2880 .i32)

theorem B_dx : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3).1 = Ldx (arg13.view.readCov (Lrd (ldC arg1 harg1 x0)) Rrd.toLoadRect) (fun j => (arg12.view.readAt (Elt F) (R2 1152 j).toLoadRect (harg12.unread xs0))) (arg12.view.readAt (Elt F) (R2' 1152).toLoadRect (harg12.unread xs0)) := rfl
theorem B_dw : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3).2.1 = Ldw (fun j => arg2.view.readAt (Elt F) (R3 512 j).toLoadRect (harg2.unread x1)) (arg2.view.readAt (Elt F) (R3' 512).toLoadRect (harg2.unread x1)) (fun j => (arg15.view.readAt (Elt F) (RW i j).toLoadRect (harg15.unread xs3))) (arg15.view.readAt (Elt F) (RW' i).toLoadRect (harg15.unread xs3)) (fun j => arg7.view.readAt (Elt F) (R2 1152 j).toLoadRect (harg7.unread xo6)) (arg7.view.readAt (Elt F) (R2' 1152).toLoadRect (harg7.unread xo6)) (arg14.view.readCov (Lcd (ldC arg1 harg1 x0)) Rcd.toLoadRect) := rfl
theorem B_rc : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3).2.2.1 = Lrc (ldC arg1 harg1 x0) := rfl
theorem B_rs : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3).2.2.2.1 = Lrs (ldC arg1 harg1 x0) := rfl
theorem B_cc : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3).2.2.2.2.1 = Lcc (ldC arg1 harg1 x0) := rfl
theorem B_ce : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3).2.2.2.2.2.2.2.2.1 = Lce i (ldC arg1 harg1 x0) := rfl
theorem B_rd : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3).2.2.2.2.2.2.2.2.2.1 = Lrd (ldC arg1 harg1 x0) := rfl
theorem B_cd : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3).2.2.2.2.2.2.2.2.2.2.1 = Lcd (ldC arg1 harg1 x0) := rfl

end Cert.KernelIdeal.Hand

end
-- ==== Proof.RunC.lean ====
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4848000 in
/-- What the body's stores leave in each output's staging memref, as pieces (last first) IN CASE C (`scf.if` 0 not taken, `scf.if` 1 not taken, `scf.if` 2 taken: points 3, 7, … 31: 8 of 32), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : ¬cond0_0 i) (hc1 : ¬cond0_1 i) (hc2 : cond0_2 i)
    (x0 : Vec F S1x512x1152 .bf16) (x1 : Vec F S1x512x2880 .fp8e4m3) (x2 : Vec F S1x64x2880 .i8) (x3 : Vec F S1152x2880 .fp8e4m3) (x4 : Vec F S36x2880 .i8) (xo6 : Vec F S1152x2880 .f32) (xs0 : Vec F S1152x2880 .bf16) (xs3 : Vec F S64x2880 .i32) (xs4 : Vec F S16x4x1152 .i32) :
    Σ' (L5 : List (View.Piece (Elt F) S1x512x2880 .bf16)), Σ' (L6 : List (View.Piece (Elt F) S1152x2880 .f32)), Σ' (L7 : List (View.Piece (Elt F) S1x512x1152 .fp8e4m3)), Σ' (L8 : List (View.Piece (Elt F) S1x512x36 .i8)), Σ' (L9 : List (View.Piece (Elt F) S1x512x1152 .fp8e4m3)), Σ' (L10 : List (View.Piece (Elt F) S1x64x1152 .i8)), Σ' (LS0 : List (View.Piece (Elt F) S1152x2880 .bf16)), Σ' (LS3 : List (View.Piece (Elt F) S64x2880 .i32)), Σ' (LS4 : List (View.Piece (Elt F) S16x4x1152 .i32)), Σ' (LT1 : List (View.Piece (Elt F) S512x1152 .bf16)), { LT2 : List (View.Piece (Elt F) S1152x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ owns (c : Thread nD τ) arg15 fullShare xs3 ∗ owns (c : Thread nD τ) arg16 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xs0 ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ owns (c : Thread nD τ) arg15 fullShare xs3 ∗ (arg16.view.loc (c : Thread nD τ) ↦[arg16.view.set]{fullShare} arg16.view.writes (Elt F) (harg16.unread xs4) LS4)) -∗ K ⟨⟩))
          ⊢ wp frame (wpE (defs₀ (F := F)) Variants.none c none) E (cc0_mx_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, [], [], ?_, ?_, ?_, fun E K => ?run⟩
  case run =>
    simp only [cc0_mx_linear_bwd_eq_skeleton]; unfold cc0_mx_linear_bwd_skel
    simp only [k0_part116_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part117_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, ⟨%ds1, %fs1, -, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg12.eq_unread hfs0; obtain rfl := harg15.eq_unread hfs3; obtain rfl := harg16.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg12.read_unread _
      iexact HS0
    isplitl [HS1]; · iexists _; iexact HS1
    isplitl [HS2]; · iexists _; iexact HS2
    isplitl [HS3]
    · iexists _; isplitr; · ipureintro; exact harg15.read_unread _
      iexact HS3
    iexact HS4

end Cert.KernelIdeal.Hand

end
-- ==== Proof.PiecesC.lean ====
module

public import proofs.«01_k».proof.Proof.RunC
public import proofs.«01_k».proof.Proof.Chunk

@[expose] public section

set_option maxRecDepth 16384

noncomputable section

/-! # The stores found by the run of case C are the lists of the chunks -/

namespace Cert.KernelIdeal.Hand

open Cert.KernelIdeal.Gen Idealize.ShloMosaic

variable {F : FTy → Type} [FloatOps F]
variable (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : ¬cond0_0 i) (hc1 : ¬cond0_1 i) (hc2 : cond0_2 i)
  (x0 : Vec F S1x512x1152 .bf16) (x1 : Vec F S1x512x2880 .fp8e4m3) (x2 : Vec F S1x64x2880 .i8) (x3 : Vec F S1152x2880 .fp8e4m3) (x4 : Vec F S36x2880 .i8) (xo6 : Vec F S1152x2880 .f32) (xs0 : Vec F S1152x2880 .bf16) (xs3 : Vec F S64x2880 .i32) (xs4 : Vec F S16x4x1152 .i32)

theorem C_dx : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3 xs4).1 = Ldx (arg13.view.readCov (Lrd (ldC arg1 harg1 x0)) Rrd.toLoadRect) (fun j => (arg12.view.readAt (Elt F) (R2 1152 j).toLoadRect (harg12.unread xs0))) (arg12.view.readAt (Elt F) (R2' 1152).toLoadRect (harg12.unread xs0)) := rfl
theorem C_dw : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3 xs4).2.1 = Ldw (fun j => arg2.view.readAt (Elt F) (R3 512 j).toLoadRect (harg2.unread x1)) (arg2.view.readAt (Elt F) (R3' 512).toLoadRect (harg2.unread x1)) (fun j => (arg15.view.readAt (Elt F) (RW i j).toLoadRect (harg15.unread xs3))) (arg15.view.readAt (Elt F) (RW' i).toLoadRect (harg15.unread xs3)) (fun j => arg7.view.readAt (Elt F) (R2 1152 j).toLoadRect (harg7.unread xo6)) (arg7.view.readAt (Elt F) (R2' 1152).toLoadRect (harg7.unread xo6)) (arg14.view.readCov (Lcd (ldC arg1 harg1 x0)) Rcd.toLoadRect) := rfl
theorem C_rc : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3 xs4).2.2.1 = Lrc (ldC arg1 harg1 x0) := rfl
theorem C_rs : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3 xs4).2.2.2.1 = Lrs (ldC arg1 harg1 x0) := rfl
theorem C_cc : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3 xs4).2.2.2.2.1 = Lcc (ldC arg1 harg1 x0) := rfl
theorem C_cs : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3 xs4).2.2.2.2.2.1 = Lcs (arg16.view.readAt (Elt F) Rce.toLoadRect (arg16.view.writes (Elt F) (harg16.unread xs4) (Lce i (ldC arg1 harg1 x0)))) := rfl
theorem C_ce : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3 xs4).2.2.2.2.2.2.2.2.1 = Lce i (ldC arg1 harg1 x0) := rfl
theorem C_rd : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3 xs4).2.2.2.2.2.2.2.2.2.1 = Lrd (ldC arg1 harg1 x0) := rfl
theorem C_cd : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0 xs3 xs4).2.2.2.2.2.2.2.2.2.2.1 = Lcd (ldC arg1 harg1 x0) := rfl

end Cert.KernelIdeal.Hand

end
-- ==== Proof.RunD.lean ====
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5048000 in
/-- What the body's stores leave in each output's staging memref, as pieces (last first) IN CASE D (`scf.if` 0 not taken, `scf.if` 1 taken, `scf.if` 2 not taken: points 4, 8, … 28: 7 of 32), WITH the
    proof that on whole staging memrefs — the inputs' at their contents, the outputs it reads before covering (6) at their running contents `xo·`, the outputs it leaves idle (10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : ¬cond0_0 i) (hc1 : cond0_1 i) (hc2 : ¬cond0_2 i)
    (x0 : Vec F S1x512x1152 .bf16) (x1 : Vec F S1x512x2880 .fp8e4m3) (x2 : Vec F S1x64x2880 .i8) (x3 : Vec F S1152x2880 .fp8e4m3) (x4 : Vec F S36x2880 .i8) (xo6 : Vec F S1152x2880 .f32) (xs0 : Vec F S1152x2880 .bf16) :
    Σ' (L5 : List (View.Piece (Elt F) S1x512x2880 .bf16)), Σ' (L6 : List (View.Piece (Elt F) S1152x2880 .f32)), Σ' (L7 : List (View.Piece (Elt F) S1x512x1152 .fp8e4m3)), Σ' (L8 : List (View.Piece (Elt F) S1x512x36 .i8)), Σ' (L9 : List (View.Piece (Elt F) S1x512x1152 .fp8e4m3)), Σ' (L10 : List (View.Piece (Elt F) S1x64x1152 .i8)), Σ' (LS0 : List (View.Piece (Elt F) S1152x2880 .bf16)), Σ' (LS3 : List (View.Piece (Elt F) S64x2880 .i32)), Σ' (LS4 : List (View.Piece (Elt F) S16x4x1152 .i32)), Σ' (LT1 : List (View.Piece (Elt F) S512x1152 .bf16)), { LT2 : List (View.Piece (Elt F) S1152x512 .bf16) //
      ∀ (xi10 : Vec F S1x64x1152 .i8) (xs4 : Vec F S16x4x1152 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xi10 ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xi10 ∗ owns (c : Thread nD τ) arg12 fullShare xs0 ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LS3) ∗ (arg16.view.loc (c : Thread nD τ) ↦[arg16.view.set]{fullShare} arg16.view.writes (Elt F) (harg16.unread xs4) LS4)) -∗ K ⟨⟩))
          ⊢ wp frame (wpE (defs₀ (F := F)) Variants.none c none) E (cc0_mx_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, [], [], ?_, ?_, ?_, ?_, fun xi10 xs4 E K => ?run⟩
  case run =>
    simp only [cc0_mx_linear_bwd_eq_skeleton]; unfold cc0_mx_linear_bwd_skel
    simp only [k0_part116_eq_skeleton, k0_part9_eq_skeleton, k0_part6_eq_skeleton, k0_part7_eq_skeleton, k0_part8_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part117_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%f10, %hf10, H10⟩, ⟨%fs0, %hfs0, HS0⟩, ⟨%ds1, %fs1, -, HS1⟩, ⟨%ds2, %fs2, -, HS2⟩, ⟨%ds3, %fs3, -, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg11.eq_unread hf10; obtain rfl := harg12.eq_unread hfs0; obtain rfl := harg16.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]
    · iexists _; isplitr; · ipureintro; exact harg11.read_unread _
      iexact H10
    isplitl [HS0]
    · iexists _; isplitr; · ipureintro; exact harg12.read_unread _
      iexact HS0
    isplitl [HS1]; · iexists _; iexact HS1
    isplitl [HS2]; · iexists _; iexact HS2
    isplitl [HS3]; · iexists _; iexact HS3
    iexact HS4

end Cert.KernelIdeal.Hand

end
-- ==== Proof.PiecesD.lean ====
module

public import proofs.«01_k».proof.Proof.RunD
public import proofs.«01_k».proof.Proof.Chunk

@[expose] public section

set_option maxRecDepth 16384

noncomputable section

/-! # The stores found by the run of case D are the lists of the chunks -/

namespace Cert.KernelIdeal.Hand

open Cert.KernelIdeal.Gen Idealize.ShloMosaic

variable {F : FTy → Type} [FloatOps F]
variable (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : ¬cond0_0 i) (hc1 : cond0_1 i) (hc2 : ¬cond0_2 i)
  (x0 : Vec F S1x512x1152 .bf16) (x1 : Vec F S1x512x2880 .fp8e4m3) (x2 : Vec F S1x64x2880 .i8) (x3 : Vec F S1152x2880 .fp8e4m3) (x4 : Vec F S36x2880 .i8) (xo6 : Vec F S1152x2880 .f32) (xs0 : Vec F S1152x2880 .bf16)

theorem D_dx : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0).1 = Ldx (arg13.view.readCov (Lrd (ldC arg1 harg1 x0)) Rrd.toLoadRect) (fun j => (arg12.view.readAt (Elt F) (R2 1152 j).toLoadRect (harg12.unread xs0))) (arg12.view.readAt (Elt F) (R2' 1152).toLoadRect (harg12.unread xs0)) := rfl
theorem D_dw : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0).2.1 = Ldw (fun j => arg2.view.readAt (Elt F) (R3 512 j).toLoadRect (harg2.unread x1)) (arg2.view.readAt (Elt F) (R3' 512).toLoadRect (harg2.unread x1)) (fun j => (arg15.view.readAt (Elt F) (RW i j).toLoadRect (arg15.view.writes (Elt F) arg15.view.junk (Lx (fun j => arg3.view.readAt (Elt F) (R3 64 j).toLoadRect (harg3.unread x2)) (arg3.view.readAt (Elt F) (R3' 64).toLoadRect (harg3.unread x2)))))) (arg15.view.readAt (Elt F) (RW' i).toLoadRect (arg15.view.writes (Elt F) arg15.view.junk (Lx (fun j => arg3.view.readAt (Elt F) (R3 64 j).toLoadRect (harg3.unread x2)) (arg3.view.readAt (Elt F) (R3' 64).toLoadRect (harg3.unread x2))))) (fun j => arg7.view.readAt (Elt F) (R2 1152 j).toLoadRect (harg7.unread xo6)) (arg7.view.readAt (Elt F) (R2' 1152).toLoadRect (harg7.unread xo6)) (arg14.view.readCov (Lcd (ldC arg1 harg1 x0)) Rcd.toLoadRect) := rfl
theorem D_rc : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0).2.2.1 = Lrc (ldC arg1 harg1 x0) := rfl
theorem D_rs : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0).2.2.2.1 = Lrs (ldC arg1 harg1 x0) := rfl
theorem D_cc : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0).2.2.2.2.1 = Lcc (ldC arg1 harg1 x0) := rfl
theorem D_xw : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0).2.2.2.2.2.2.2.1 = Lx (fun j => arg3.view.readAt (Elt F) (R3 64 j).toLoadRect (harg3.unread x2)) (arg3.view.readAt (Elt F) (R3' 64).toLoadRect (harg3.unread x2)) := rfl
theorem D_ce : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0).2.2.2.2.2.2.2.2.1 = Lce i (ldC arg1 harg1 x0) := rfl
theorem D_rd : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0).2.2.2.2.2.2.2.2.2.1 = Lrd (ldC arg1 harg1 x0) := rfl
theorem D_cd : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 xo6 xs0).2.2.2.2.2.2.2.2.2.2.1 = Lcd (ldC arg1 harg1 x0) := rfl

end Cert.KernelIdeal.Hand

end
-- ==== Proof.Frame.lean ====
module

public import proofs.«01_k».proof.Proof.Point
public import proofs.«01_k».proof.Proof.PiecesA
public import proofs.«01_k».proof.Proof.PiecesB
public import proofs.«01_k».proof.Proof.PiecesC
public import proofs.«01_k».proof.Proof.PiecesD

@[expose] public section

set_option maxRecDepth 16384

noncomputable section

/-! # The run, with what every point leaves named

The pipeline's proof data states what each buffer holds after the body at point `t` in terms of the inputs alone: the
products and codes of the point's rows, `dw` summed up to the point, the widened weights, the scale words of the run of
four points, and the column exponents of the points of the run so far. -/

namespace Cert.KernelIdeal.Hand

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mx

local notation "𝕄" => MT nD τ sig Unit (Elt Ideal) ℕ (UR sig nD τ) ℕ

variable (m : (ℓ : Loc nD τ sig) → Buf (Elt Ideal) ℓ) (ρ : Dev nD → PrngReg)

/-- What the scratch holds after point `n`, and the generator at some state. -/
def Scr (c : Dev nD) (n : ℕ) : sProp 𝕄 :=
  iprop(iprop(owns (c : Thread nD τ) scM0_0 fullShare (gW (inp m c)) ∗ (∃ d, owns (c : Thread nD τ) scM0_1 fullShare d) ∗ (∃ d, owns (c : Thread nD τ) scM0_2 fullShare d) ∗ owns (c : Thread nD τ) scM0_3 fullShare (gX (inp m c) n) ∗ (∃ e, ⌜CE (inp m c) n e⌝ ∗ owns (c : Thread nD τ) scM0_4 fullShare e)) ∗ (∃ r, prngReg c r))

/-- The invariant: before the first point what the launch hands over, then the scratch at what the point before left. -/
def PhiS (c : Dev nD) : (n : ℕ) → n ≤ cfg0.N → sProp 𝕄
  | 0, _ => Pipeline.ΦA spec0 c
  | n + 1, hn => Scr m c n

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = Scr m c n := rfl
theorem PhiS_pos (c : Dev nD) (n : ℕ) (h : n ≤ cfg0.N) (hz : n ≠ 0) : PhiS m c n h = Scr m c (n - 1) := by
  cases n with
  | zero => exact absurd rfl hz
  | succ n => rfl

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gDX (inp m c) t.val
    | ⟨6, _⟩ => gDW (inp m c) (t.val + 1)
    | ⟨7, _⟩ => gRC (inp m c) t.val
    | ⟨8, _⟩ => gRS (inp m c) t.val
    | ⟨9, _⟩ => gCC (inp m c) t.val
    | ⟨10, _⟩ => gCS (inp m c) t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = gDX (inp m c) t.val := by dsimp only [dats]
theorem after0_6 (c : Dev nD) (t : Fin cfg0.N) : (dats m 0 c).after 6 t = gDW (inp m c) (t.val + 1) := by dsimp only [dats]
theorem after0_7 (c : Dev nD) (t : Fin cfg0.N) : (dats m 0 c).after 7 t = gRC (inp m c) t.val := by dsimp only [dats]
theorem after0_8 (c : Dev nD) (t : Fin cfg0.N) : (dats m 0 c).after 8 t = gRS (inp m c) t.val := by dsimp only [dats]
theorem after0_9 (c : Dev nD) (t : Fin cfg0.N) : (dats m 0 c).after 9 t = gCC (inp m c) t.val := by dsimp only [dats]
theorem after0_10 (c : Dev nD) (t : Fin cfg0.N) : (dats m 0 c).after 10 t = gCS (inp m c) t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- Past the first point `dw`'s buffer holds what the point before left: it is written back at the last point only. -/
theorem before0_6 (c : Dev nD) (t : Fin cfg0.N) (hz : t.val ≠ 0) (d) : (dats m 0 c).before 6 t d = gDW (inp m c) t.val := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  rw [after0_6]
  show gDW (inp m c) (t.val - 1 + 1) = _
  rw [Nat.sub_add_cancel (by omega)]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 25600000 in
/-- The body at the first point. -/
theorem sound_A (c : Dev nD) (t : Fin cfg0.N) (hz : t.val = 0) :
    bodyPre m c t ⊢ wp frame (wpE (defs₀ (F := Ideal)) Variants.none c none) Set.univ (bodyAt0 t) (fun _ => bodyPost m c t) := by
  have h0 : t.val % 32 = 0 := by omega
  have h1 : t.val % 4 = 0 := by omega
  have h2 : ¬t.val % 4 = 3 := by omega
  have hN : t.val < 32 := lt_of_lt_of_eq t.isLt (show cfg0.N = 32 from N_0)
  have B := blk_t m c t
  have O := offs_t t
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [Dat.leavesExact_idle (dats m 0 c) 10 t (idleAt0_10_A t ((hcond0_0 t).mpr h0) ((hcond0_1 t).mpr h1) (fun h => h2 ((hcond0_2 t).mp h))) (noFlush0_10_A t ((hcond0_0 t).mpr h0) ((hcond0_1 t).mpr h1) (fun h => h2 ((hcond0_2 t).mp h)))]
  rw [PhiS_castSucc m c t, PhiS_zero m c _ _ hz, PhiA0_eq]
  unfold Scr
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, ⟨%e6, H6⟩, ⟨%e7, H7⟩, ⟨%e8, H8⟩, ⟨%e9, H9⟩, H10, ⟨%es0, HS0⟩, ⟨%fT1, HS1⟩, ⟨%fT2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; rw [A_w]; exact read_of _ (LW_is B) Lw_cov _
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; rw [A_xw]; exact read_of _ (LX_is B) Lx_cov _
      iexists _; isplitr
      swap
      · unfold owns; iexists _; isplitr
        swap; · iexact HS4
        ipureintro; rfl
      ipureintro
      rw [A_ce]
      exact ce_read B O (CE_first h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [A_dx]; exact dxA_read B
  isplitl [H6]
  · unfold owns; iexists _; isplitr
    swap; · iexact H6
    ipureintro; rw [A_dw, show t.val + 1 = 0 + 1 by omega]; exact dwA_read (hz ▸ B) (hz ▸ O)
  isplitl [H7]
  · unfold owns; iexists _; isplitr
    swap; · iexact H7
    ipureintro; rw [A_rc]; exact rc_read B
  isplitl [H8]
  · unfold owns; iexists _; isplitr
    swap; · iexact H8
    ipureintro; rw [A_rs]; exact rs_read B
  isplitl [H9]
  · unfold owns; iexists _; isplitr
    swap; · iexact H9
    ipureintro; rw [A_cc]; exact cc_read B
  iexists _; iexact H10

set_option maxHeartbeats 25600000 in
/-- The body inside a run of four points. -/
theorem sound_B (c : Dev nD) (t : Fin cfg0.N) (h0 : ¬t.val % 32 = 0) (h1 : ¬t.val % 4 = 0) (h2 : ¬t.val % 4 = 3) :
    bodyPre m c t ⊢ wp frame (wpE (defs₀ (F := Ideal)) Variants.none c none) Set.univ (bodyAt0 t) (fun _ => bodyPost m c t) := by
  have hz : t.val ≠ 0 := by omega
  have hN : t.val < 32 := lt_of_lt_of_eq t.isLt (show cfg0.N = 32 from N_0)
  have B := blk_t m c t
  have O := offs_t t
  unfold bodyPre bodyPost bodyAt0
  simp only [before0_0, before0_1, before0_2, before0_3, before0_4, before0_6 m c t hz]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [Dat.leavesExact_idle (dats m 0 c) 10 t (idleAt0_10_B t (fun h => h0 ((hcond0_0 t).mp h)) (fun h => h1 ((hcond0_1 t).mp h)) (fun h => h2 ((hcond0_2 t).mp h))) (noFlush0_10_B t (fun h => h0 ((hcond0_0 t).mp h)) (fun h => h1 ((hcond0_1 t).mp h)) (fun h => h2 ((hcond0_2 t).mp h)))]
  rw [PhiS_castSucc m c t, PhiS_pos m c _ _ hz]
  unfold Scr
  rw [gX_pred h1]
  iintro ⟨⟨⟨HS0, HS1, HS2, HS3, ⟨%e, %he, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (gDW (inp m c) t.val) (gW (inp m c)) (gX (inp m c) t.val)).2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H9]; · iexists _; iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, ⟨%e6, H6⟩, ⟨%e7, H7⟩, ⟨%e8, H8⟩, ⟨%e9, H9⟩, H10, HS0, ⟨%fT1, HS1⟩, ⟨%fT2, HS2⟩, HS3, HS4⟩
  isplitl [HS0 HS1 HS2 HS3 HS4 Hg]
  · isplitl [HS0 HS1 HS2 HS3 HS4]
    · isplitl [HS0]
      · iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexact HS3
      iexists _; isplitr
      swap
      · unfold owns; iexists _; isplitr
        swap; · iexact HS4
        ipureintro; rfl
      ipureintro
      rw [B_ce]
      exact ce_read B O ((Memref.IsWhole.read_unread _ _).symm ▸ CE_pred h1 he)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [B_dx]; exact dx_read B
  isplitl [H6]
  · unfold owns; iexists _; isplitr
    swap; · iexact H6
    ipureintro; rw [B_dw]; exact dw_read B O
  isplitl [H7]
  · unfold owns; iexists _; isplitr
    swap; · iexact H7
    ipureintro; rw [B_rc]; exact rc_read B
  isplitl [H8]
  · unfold owns; iexists _; isplitr
    swap; · iexact H8
    ipureintro; rw [B_rs]; exact rs_read B
  isplitl [H9]
  · unfold owns; iexists _; isplitr
    swap; · iexact H9
    ipureintro; rw [B_cc]; exact cc_read B
  iexists _; iexact H10

set_option maxHeartbeats 25600000 in
/-- The body at the last point of a run of four. -/
theorem sound_C (c : Dev nD) (t : Fin cfg0.N) (h0 : ¬t.val % 32 = 0) (h1 : ¬t.val % 4 = 0) (h2 : t.val % 4 = 3) :
    bodyPre m c t ⊢ wp frame (wpE (defs₀ (F := Ideal)) Variants.none c none) Set.univ (bodyAt0 t) (fun _ => bodyPost m c t) := by
  have hz : t.val ≠ 0 := by omega
  have hN : t.val < 32 := lt_of_lt_of_eq t.isLt (show cfg0.N = 32 from N_0)
  have B := blk_t m c t
  have O := offs_t t
  unfold bodyPre bodyPost bodyAt0
  simp only [before0_0, before0_1, before0_2, before0_3, before0_4, before0_6 m c t hz]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10_C t (fun h => h0 ((hcond0_0 t).mp h)) (fun h => h1 ((hcond0_1 t).mp h)) ((hcond0_2 t).mpr h2)], after0_10]
  rw [PhiS_castSucc m c t, PhiS_pos m c _ _ hz]
  unfold Scr
  rw [gX_pred h1]
  iintro ⟨⟨⟨HS0, HS1, HS2, HS3, ⟨%e, %he, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_C c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (gDW (inp m c) t.val) (gW (inp m c)) (gX (inp m c) t.val) e).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, ⟨%e6, H6⟩, ⟨%e7, H7⟩, ⟨%e8, H8⟩, ⟨%e9, H9⟩, ⟨%e10, H10⟩, HS0, ⟨%fT1, HS1⟩, ⟨%fT2, HS2⟩, HS3, HS4⟩
  isplitl [HS0 HS1 HS2 HS3 HS4 Hg]
  · isplitl [HS0 HS1 HS2 HS3 HS4]
    · isplitl [HS0]
      · iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexact HS3
      iexists _; isplitr
      swap
      · unfold owns; iexists _; isplitr
        swap; · iexact HS4
        ipureintro; rfl
      ipureintro
      rw [C_ce]
      exact ce_read B O ((Memref.IsWhole.read_unread _ _).symm ▸ CE_pred h1 he)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [C_dx]; exact dx_read B
  isplitl [H6]
  · unfold owns; iexists _; isplitr
    swap; · iexact H6
    ipureintro; rw [C_dw]; exact dw_read B O
  isplitl [H7]
  · unfold owns; iexists _; isplitr
    swap; · iexact H7
    ipureintro; rw [C_rc]; exact rc_read B
  isplitl [H8]
  · unfold owns; iexists _; isplitr
    swap; · iexact H8
    ipureintro; rw [C_rs]; exact rs_read B
  isplitl [H9]
  · unfold owns; iexists _; isplitr
    swap; · iexact H9
    ipureintro; rw [C_cc]; exact cc_read B
  unfold owns; iexists _; isplitr
  swap; · iexact H10
  ipureintro; rw [C_cs]; exact cs_read B O h2 ((Memref.IsWhole.read_unread _ _).symm ▸ CE_pred h1 he)

set_option maxHeartbeats 25600000 in
/-- The body at the first point of a run of four but the first. -/
theorem sound_D (c : Dev nD) (t : Fin cfg0.N) (h0 : ¬t.val % 32 = 0) (h1 : t.val % 4 = 0) (h2 : ¬t.val % 4 = 3) :
    bodyPre m c t ⊢ wp frame (wpE (defs₀ (F := Ideal)) Variants.none c none) Set.univ (bodyAt0 t) (fun _ => bodyPost m c t) := by
  have hz : t.val ≠ 0 := by omega
  have hN : t.val < 32 := lt_of_lt_of_eq t.isLt (show cfg0.N = 32 from N_0)
  have B := blk_t m c t
  have O := offs_t t
  unfold bodyPre bodyPost bodyAt0
  simp only [before0_0, before0_1, before0_2, before0_3, before0_4, before0_6 m c t hz]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [Dat.leavesExact_idle (dats m 0 c) 10 t (idleAt0_10_D t (fun h => h0 ((hcond0_0 t).mp h)) ((hcond0_1 t).mpr h1) (fun h => h2 ((hcond0_2 t).mp h))) (noFlush0_10_D t (fun h => h0 ((hcond0_0 t).mp h)) ((hcond0_1 t).mpr h1) (fun h => h2 ((hcond0_2 t).mp h)))]
  rw [PhiS_castSucc m c t, PhiS_pos m c _ _ hz]
  unfold Scr
  iintro ⟨⟨⟨HS0, HS1, HS2, HS3, ⟨%e, %he, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_D c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (gDW (inp m c) t.val) (gW (inp m c))).2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H9]; · iexists _; iexact H9
  isplitl [H10]; · iexact H10
  isplitl [HS0]; · iexact HS0
  isplitl [HS1]; · iexact HS1
  isplitl [HS2]; · iexact HS2
  isplitl [HS3]; · iexists _; iexact HS3
  isplitl [HS4]; · iexact HS4
  iintro ⟨H0, H1, H2, H3, H4, ⟨%e5, H5⟩, ⟨%e6, H6⟩, ⟨%e7, H7⟩, ⟨%e8, H8⟩, ⟨%e9, H9⟩, H10, HS0, ⟨%fT1, HS1⟩, ⟨%fT2, HS2⟩, ⟨%es3, HS3⟩, HS4⟩
  isplitl [HS0 HS1 HS2 HS3 HS4 Hg]
  · isplitl [HS0 HS1 HS2 HS3 HS4]
    · isplitl [HS0]
      · iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · unfold owns; iexists _; isplitr
        swap; · iexact HS3
        ipureintro; rw [D_xw]; exact read_of _ (LX_is B) Lx_cov _
      iexists _; isplitr
      swap
      · unfold owns; iexists _; isplitr
        swap; · iexact HS4
        ipureintro; rfl
      ipureintro
      rw [D_ce]
      exact ce_read B O (CE_first h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [D_dx]; exact dx_read B
  isplitl [H6]
  · unfold owns; iexists _; isplitr
    swap; · iexact H6
    ipureintro; rw [D_dw]; exact dwD_read B O
  isplitl [H7]
  · unfold owns; iexists _; isplitr
    swap; · iexact H7
    ipureintro; rw [D_rc]; exact rc_read B
  isplitl [H8]
  · unfold owns; iexists _; isplitr
    swap; · iexact H8
    ipureintro; rw [D_rs]; exact rs_read B
  isplitl [H9]
  · unfold owns; iexists _; isplitr
    swap; · iexact H9
    ipureintro; rw [D_cc]; exact cc_read B
  iexists _; iexact H10

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 32 := lt_of_lt_of_eq t.isLt (show cfg0.N = 32 from N_0)
  by_cases h0 : t.val % 32 = 0
  · exact sound_A m c t (by omega)
  · by_cases h1 : t.val % 4 = 0
    · exact sound_D m c t h0 h1 (by omega)
    · by_cases h2 : t.val % 4 = 3
      · exact sound_C m c t h0 h1 h2
      · exact sound_B m c t h0 h1 h2

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold Scr
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexists _; iexact HS3
    icases HS4 with ⟨%e, %he, HS4⟩
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Hand

end
-- ==== Proof.Final.lean ====
module

public import proofs.«01_k».proof.Proof.Frame
public import Idealize.ShloMosaic.Lib.Pipeline.Value

@[expose] public section

set_option maxRecDepth 16384

noncomputable section

/-! # The arrays after the run

Every output window's written blocks tile its array, and each is the block of one function of the inputs. -/

namespace Cert.KernelIdeal.Hand

open Cert.KernelIdeal.Gen Idealize.ShloMosaic Idealize.ShloMosaic.TcCoe Idealize.SL.Sem
open Idealize.ShloMosaic.Rounds
open Idealize.SL Idealize.SL.RA Idealize.SL.BI Idealize.SL.ProofMode
open Idealize.ShloMosaic.Pipeline (Dat)
open Cert.Mx

variable (m : (ℓ : Loc nD τ sig) → Buf (Elt Ideal) ℓ) (ρ : Dev nD → PrngReg)

/-- The six results as functions of the inputs. -/
def oDX (I : Inp) : Vec Ideal S8x2048x2880 .bf16 := fun y => dx I (2048 * (y (0 : Fin 3)).val + (y (1 : Fin 3)).val) (y (2 : Fin 3)).val
def oDW (I : Inp) : Vec Ideal S1152x2880 .f32 := fun y => dw I 32 (y (0 : Fin 2)).val (y (1 : Fin 2)).val
def oRC (I : Inp) : Vec Ideal S8x2048x1152 .fp8e4m3 := fun y => rC I (2048 * (y (0 : Fin 3)).val + (y (1 : Fin 3)).val) (y (2 : Fin 3)).val
def oRS (I : Inp) : Vec Ideal S8x2048x36 .i8 := fun y => rSc I (2048 * (y (0 : Fin 3)).val + (y (1 : Fin 3)).val) (y (2 : Fin 3)).val
def oCC (I : Inp) : Vec Ideal S8x2048x1152 .fp8e4m3 := fun y => cC I (2048 * (y (0 : Fin 3)).val + (y (1 : Fin 3)).val) (y (2 : Fin 3)).val
def oCS (I : Inp) : Vec Ideal S8x64x1152 .i8 := fun y => cSc I (64 * (y (0 : Fin 3)).val + (y (1 : Fin 3)).val) (y (2 : Fin 3)).val

/-! ## Window 5 -/

theorem idx5 : ∀ t : Fin cfg0.N, win0_5.index t = ![t.val / 4, t.val % 4, 0] :=
  (by decide +kernel : ∀ t : Fin grid0.N, win0_5.index t = ![t.val / 4, t.val % 4, 0])

theorem flushed5 (c : Dev nD) (t : Fin cfg0.N) (hf : (cfg0.win 5).flush t = true) :
    (dats m 0 c).flushed 5 t = ((cfg0.win 5).blk t).view.read (Elt Ideal) (oDX (inp m c)) := by
  show (cfg0.win 5).cut (grid0.coords t) ((dats m 0 c).after 5 t) = _
  rw [after0_5]
  funext y
  have h0 : (y (0 : Fin 3)).val < 1 := (y (0 : Fin 3)).isLt
  have e0 : (((cfg0.win 5).blk t).view.emb y (0 : Fin 3)).val = win0_5.index t (0 : Fin 3) * 1 + 1 * (y (0 : Fin 3)).val := rfl
  have e1 : (((cfg0.win 5).blk t).view.emb y (1 : Fin 3)).val = win0_5.index t (1 : Fin 3) * 512 + 1 * (y (1 : Fin 3)).val := rfl
  have e2 : (((cfg0.win 5).blk t).view.emb y (2 : Fin 3)).val = win0_5.index t (2 : Fin 3) * 2880 + 1 * (y (2 : Fin 3)).val := rfl
  have i0 : win0_5.index t (0 : Fin 3) = t.val / 4 := congrFun (idx5 t) 0
  have i1 : win0_5.index t (1 : Fin 3) = t.val % 4 := congrFun (idx5 t) 1
  have i2 : win0_5.index t (2 : Fin 3) = 0 := congrFun (idx5 t) 2
  show dx (inp m c) (512 * t.val + (y (1 : Fin 3)).val) (y (2 : Fin 3)).val
    = dx (inp m c) (2048 * (((cfg0.win 5).blk t).view.emb y (0 : Fin 3)).val + (((cfg0.win 5).blk t).view.emb y (1 : Fin 3)).val) (((cfg0.win 5).blk t).view.emb y (2 : Fin 3)).val
  congr 1 <;> omega

theorem mem_blk5 (t : Fin cfg0.N) (i : S8x2048x2880.Idx) :
    i ∈ ((cfg0.win 5).blk t).view.set ↔ ∀ a : Fin 3, win0_5.index t a * S1x512x2880.size a ≤ (i a).val ∧ (i a).val < win0_5.index t a * S1x512x2880.size a + S1x512x2880.size a := by
  show i ∈ ((View.whole main_v0_0).slice (win0_5.rect t)).set ↔ _
  rw [View.set_slice_whole, Rect.mem_set_unit]
  exact Iff.rfl

theorem covered5 (i : S8x2048x2880.Idx) : ∃ t : Fin cfg0.N, (cfg0.win 5).flush t = true ∧ i ∈ ((cfg0.win 5).blk t).view.set := by
  have hi0 : (i (0 : Fin 3)).val < 8 := (i (0 : Fin 3)).isLt
  have hi1 : (i (1 : Fin 3)).val < 2048 := (i (1 : Fin 3)).isLt
  have hi2 : (i (2 : Fin 3)).val < 2880 := (i (2 : Fin 3)).isLt
  have hN : cfg0.N = 32 := N_0
  let t : Fin cfg0.N := ⟨4 * (i (0 : Fin 3)).val + (i (1 : Fin 3)).val / 512, by omega⟩
  have ht : t.val = 4 * (i (0 : Fin 3)).val + (i (1 : Fin 3)).val / 512 := rfl
  have i0 : win0_5.index t (0 : Fin 3) = t.val / 4 := congrFun (idx5 t) 0
  have i1 : win0_5.index t (1 : Fin 3) = t.val % 4 := congrFun (idx5 t) 1
  have i2 : win0_5.index t (2 : Fin 3) = 0 := congrFun (idx5 t) 2
  refine ⟨t, flush0_5 t, ?_⟩
  rw [mem_blk5]
  intro a
  match a with
  | ⟨0, _⟩ => show win0_5.index t (0 : Fin 3) * 1 ≤ (i (0 : Fin 3)).val ∧ (i (0 : Fin 3)).val < win0_5.index t (0 : Fin 3) * 1 + 1; omega
  | ⟨1, _⟩ => show win0_5.index t (1 : Fin 3) * 512 ≤ (i (1 : Fin 3)).val ∧ (i (1 : Fin 3)).val < win0_5.index t (1 : Fin 3) * 512 + 512; omega
  | ⟨2, _⟩ => show win0_5.index t (2 : Fin 3) * 2880 ≤ (i (2 : Fin 3)).val ∧ (i (2 : Fin 3)).val < win0_5.index t (2 : Fin 3) * 2880 + 2880; omega

theorem final5 (c : Dev nD) : (dats m 0 c).arrAt 5 cfg0.N = oDX (inp m c) :=
  (dats m 0 c).arrAt_eq_of_cover 5 _ (fun t hf => flushed5 m c t hf) covered5

/-! ## Window 7 -/

theorem idx7 : ∀ t : Fin cfg0.N, win0_7.index t = ![t.val / 4, t.val % 4, 0] :=
  (by decide +kernel : ∀ t : Fin grid0.N, win0_7.index t = ![t.val / 4, t.val % 4, 0])

theorem flushed7 (c : Dev nD) (t : Fin cfg0.N) (hf : (cfg0.win 7).flush t = true) :
    (dats m 0 c).flushed 7 t = ((cfg0.win 7).blk t).view.read (Elt Ideal) (oRC (inp m c)) := by
  show (cfg0.win 7).cut (grid0.coords t) ((dats m 0 c).after 7 t) = _
  rw [after0_7]
  funext y
  have h0 : (y (0 : Fin 3)).val < 1 := (y (0 : Fin 3)).isLt
  have e0 : (((cfg0.win 7).blk t).view.emb y (0 : Fin 3)).val = win0_7.index t (0 : Fin 3) * 1 + 1 * (y (0 : Fin 3)).val := rfl
  have e1 : (((cfg0.win 7).blk t).view.emb y (1 : Fin 3)).val = win0_7.index t (1 : Fin 3) * 512 + 1 * (y (1 : Fin 3)).val := rfl
  have e2 : (((cfg0.win 7).blk t).view.emb y (2 : Fin 3)).val = win0_7.index t (2 : Fin 3) * 1152 + 1 * (y (2 : Fin 3)).val := rfl
  have i0 : win0_7.index t (0 : Fin 3) = t.val / 4 := congrFun (idx7 t) 0
  have i1 : win0_7.index t (1 : Fin 3) = t.val % 4 := congrFun (idx7 t) 1
  have i2 : win0_7.index t (2 : Fin 3) = 0 := congrFun (idx7 t) 2
  show rC (inp m c) (512 * t.val + (y (1 : Fin 3)).val) (y (2 : Fin 3)).val
    = rC (inp m c) (2048 * (((cfg0.win 7).blk t).view.emb y (0 : Fin 3)).val + (((cfg0.win 7).blk t).view.emb y (1 : Fin 3)).val) (((cfg0.win 7).blk t).view.emb y (2 : Fin 3)).val
  congr 1 <;> omega

theorem mem_blk7 (t : Fin cfg0.N) (i : S8x2048x1152.Idx) :
    i ∈ ((cfg0.win 7).blk t).view.set ↔ ∀ a : Fin 3, win0_7.index t a * S1x512x1152.size a ≤ (i a).val ∧ (i a).val < win0_7.index t a * S1x512x1152.size a + S1x512x1152.size a := by
  show i ∈ ((View.whole main_v0_2).slice (win0_7.rect t)).set ↔ _
  rw [View.set_slice_whole, Rect.mem_set_unit]
  exact Iff.rfl

theorem covered7 (i : S8x2048x1152.Idx) : ∃ t : Fin cfg0.N, (cfg0.win 7).flush t = true ∧ i ∈ ((cfg0.win 7).blk t).view.set := by
  have hi0 : (i (0 : Fin 3)).val < 8 := (i (0 : Fin 3)).isLt
  have hi1 : (i (1 : Fin 3)).val < 2048 := (i (1 : Fin 3)).isLt
  have hi2 : (i (2 : Fin 3)).val < 1152 := (i (2 : Fin 3)).isLt
  have hN : cfg0.N = 32 := N_0
  let t : Fin cfg0.N := ⟨4 * (i (0 : Fin 3)).val + (i (1 : Fin 3)).val / 512, by omega⟩
  have ht : t.val = 4 * (i (0 : Fin 3)).val + (i (1 : Fin 3)).val / 512 := rfl
  have i0 : win0_7.index t (0 : Fin 3) = t.val / 4 := congrFun (idx7 t) 0
  have i1 : win0_7.index t (1 : Fin 3) = t.val % 4 := congrFun (idx7 t) 1
  have i2 : win0_7.index t (2 : Fin 3) = 0 := congrFun (idx7 t) 2
  refine ⟨t, flush0_7 t, ?_⟩
  rw [mem_blk7]
  intro a
  match a with
  | ⟨0, _⟩ => show win0_7.index t (0 : Fin 3) * 1 ≤ (i (0 : Fin 3)).val ∧ (i (0 : Fin 3)).val < win0_7.index t (0 : Fin 3) * 1 + 1; omega
  | ⟨1, _⟩ => show win0_7.index t (1 : Fin 3) * 512 ≤ (i (1 : Fin 3)).val ∧ (i (1 : Fin 3)).val < win0_7.index t (1 : Fin 3) * 512 + 512; omega
  | ⟨2, _⟩ => show win0_7.index t (2 : Fin 3) * 1152 ≤ (i (2 : Fin 3)).val ∧ (i (2 : Fin 3)).val < win0_7.index t (2 : Fin 3) * 1152 + 1152; omega

theorem final7 (c : Dev nD) : (dats m 0 c).arrAt 7 cfg0.N = oRC (inp m c) :=
  (dats m 0 c).arrAt_eq_of_cover 7 _ (fun t hf => flushed7 m c t hf) covered7

/-! ## Window 8 -/

theorem idx8 : ∀ t : Fin cfg0.N, win0_8.index t = ![t.val / 4, t.val % 4, 0] :=
  (by decide +kernel : ∀ t : Fin grid0.N, win0_8.index t = ![t.val / 4, t.val % 4, 0])

theorem flushed8 (c : Dev nD) (t : Fin cfg0.N) (hf : (cfg0.win 8).flush t = true) :
    (dats m 0 c).flushed 8 t = ((cfg0.win 8).blk t).view.read (Elt Ideal) (oRS (inp m c)) := by
  show (cfg0.win 8).cut (grid0.coords t) ((dats m 0 c).after 8 t) = _
  rw [after0_8]
  funext y
  have h0 : (y (0 : Fin 3)).val < 1 := (y (0 : Fin 3)).isLt
  have e0 : (((cfg0.win 8).blk t).view.emb y (0 : Fin 3)).val = win0_8.index t (0 : Fin 3) * 1 + 1 * (y (0 : Fin 3)).val := rfl
  have e1 : (((cfg0.win 8).blk t).view.emb y (1 : Fin 3)).val = win0_8.index t (1 : Fin 3) * 512 + 1 * (y (1 : Fin 3)).val := rfl
  have e2 : (((cfg0.win 8).blk t).view.emb y (2 : Fin 3)).val = win0_8.index t (2 : Fin 3) * 36 + 1 * (y (2 : Fin 3)).val := rfl
  have i0 : win0_8.index t (0 : Fin 3) = t.val / 4 := congrFun (idx8 t) 0
  have i1 : win0_8.index t (1 : Fin 3) = t.val % 4 := congrFun (idx8 t) 1
  have i2 : win0_8.index t (2 : Fin 3) = 0 := congrFun (idx8 t) 2
  show rSc (inp m c) (512 * t.val + (y (1 : Fin 3)).val) (y (2 : Fin 3)).val
    = rSc (inp m c) (2048 * (((cfg0.win 8).blk t).view.emb y (0 : Fin 3)).val + (((cfg0.win 8).blk t).view.emb y (1 : Fin 3)).val) (((cfg0.win 8).blk t).view.emb y (2 : Fin 3)).val
  congr 1 <;> omega

theorem mem_blk8 (t : Fin cfg0.N) (i : S8x2048x36.Idx) :
    i ∈ ((cfg0.win 8).blk t).view.set ↔ ∀ a : Fin 3, win0_8.index t a * S1x512x36.size a ≤ (i a).val ∧ (i a).val < win0_8.index t a * S1x512x36.size a + S1x512x36.size a := by
  show i ∈ ((View.whole main_v0_3).slice (win0_8.rect t)).set ↔ _
  rw [View.set_slice_whole, Rect.mem_set_unit]
  exact Iff.rfl

theorem covered8 (i : S8x2048x36.Idx) : ∃ t : Fin cfg0.N, (cfg0.win 8).flush t = true ∧ i ∈ ((cfg0.win 8).blk t).view.set := by
  have hi0 : (i (0 : Fin 3)).val < 8 := (i (0 : Fin 3)).isLt
  have hi1 : (i (1 : Fin 3)).val < 2048 := (i (1 : Fin 3)).isLt
  have hi2 : (i (2 : Fin 3)).val < 36 := (i (2 : Fin 3)).isLt
  have hN : cfg0.N = 32 := N_0
  let t : Fin cfg0.N := ⟨4 * (i (0 : Fin 3)).val + (i (1 : Fin 3)).val / 512, by omega⟩
  have ht : t.val = 4 * (i (0 : Fin 3)).val + (i (1 : Fin 3)).val / 512 := rfl
  have i0 : win0_8.index t (0 : Fin 3) = t.val / 4 := congrFun (idx8 t) 0
  have i1 : win0_8.index t (1 : Fin 3) = t.val % 4 := congrFun (idx8 t) 1
  have i2 : win0_8.index t (2 : Fin 3) = 0 := congrFun (idx8 t) 2
  refine ⟨t, flush0_8 t, ?_⟩
  rw [mem_blk8]
  intro a
  match a with
  | ⟨0, _⟩ => show win0_8.index t (0 : Fin 3) * 1 ≤ (i (0 : Fin 3)).val ∧ (i (0 : Fin 3)).val < win0_8.index t (0 : Fin 3) * 1 + 1; omega
  | ⟨1, _⟩ => show win0_8.index t (1 : Fin 3) * 512 ≤ (i (1 : Fin 3)).val ∧ (i (1 : Fin 3)).val < win0_8.index t (1 : Fin 3) * 512 + 512; omega
  | ⟨2, _⟩ => show win0_8.index t (2 : Fin 3) * 36 ≤ (i (2 : Fin 3)).val ∧ (i (2 : Fin 3)).val < win0_8.index t (2 : Fin 3) * 36 + 36; omega

theorem final8 (c : Dev nD) : (dats m 0 c).arrAt 8 cfg0.N = oRS (inp m c) :=
  (dats m 0 c).arrAt_eq_of_cover 8 _ (fun t hf => flushed8 m c t hf) covered8

/-! ## Window 9 -/

theorem idx9 : ∀ t : Fin cfg0.N, win0_9.index t = ![t.val / 4, t.val % 4, 0] :=
  (by decide +kernel : ∀ t : Fin grid0.N, win0_9.index t = ![t.val / 4, t.val % 4, 0])

theorem flushed9 (c : Dev nD) (t : Fin cfg0.N) (hf : (cfg0.win 9).flush t = true) :
    (dats m 0 c).flushed 9 t = ((cfg0.win 9).blk t).view.read (Elt Ideal) (oCC (inp m c)) := by
  show (cfg0.win 9).cut (grid0.coords t) ((dats m 0 c).after 9 t) = _
  rw [after0_9]
  funext y
  have h0 : (y (0 : Fin 3)).val < 1 := (y (0 : Fin 3)).isLt
  have e0 : (((cfg0.win 9).blk t).view.emb y (0 : Fin 3)).val = win0_9.index t (0 : Fin 3) * 1 + 1 * (y (0 : Fin 3)).val := rfl
  have e1 : (((cfg0.win 9).blk t).view.emb y (1 : Fin 3)).val = win0_9.index t (1 : Fin 3) * 512 + 1 * (y (1 : Fin 3)).val := rfl
  have e2 : (((cfg0.win 9).blk t).view.emb y (2 : Fin 3)).val = win0_9.index t (2 : Fin 3) * 1152 + 1 * (y (2 : Fin 3)).val := rfl
  have i0 : win0_9.index t (0 : Fin 3) = t.val / 4 := congrFun (idx9 t) 0
  have i1 : win0_9.index t (1 : Fin 3) = t.val % 4 := congrFun (idx9 t) 1
  have i2 : win0_9.index t (2 : Fin 3) = 0 := congrFun (idx9 t) 2
  show cC (inp m c) (512 * t.val + (y (1 : Fin 3)).val) (y (2 : Fin 3)).val
    = cC (inp m c) (2048 * (((cfg0.win 9).blk t).view.emb y (0 : Fin 3)).val + (((cfg0.win 9).blk t).view.emb y (1 : Fin 3)).val) (((cfg0.win 9).blk t).view.emb y (2 : Fin 3)).val
  congr 1 <;> omega

theorem mem_blk9 (t : Fin cfg0.N) (i : S8x2048x1152.Idx) :
    i ∈ ((cfg0.win 9).blk t).view.set ↔ ∀ a : Fin 3, win0_9.index t a * S1x512x1152.size a ≤ (i a).val ∧ (i a).val < win0_9.index t a * S1x512x1152.size a + S1x512x1152.size a := by
  show i ∈ ((View.whole main_v0_4).slice (win0_9.rect t)).set ↔ _
  rw [View.set_slice_whole, Rect.mem_set_unit]
  exact Iff.rfl

theorem covered9 (i : S8x2048x1152.Idx) : ∃ t : Fin cfg0.N, (cfg0.win 9).flush t = true ∧ i ∈ ((cfg0.win 9).blk t).view.set := by
  have hi0 : (i (0 : Fin 3)).val < 8 := (i (0 : Fin 3)).isLt
  have hi1 : (i (1 : Fin 3)).val < 2048 := (i (1 : Fin 3)).isLt
  have hi2 : (i (2 : Fin 3)).val < 1152 := (i (2 : Fin 3)).isLt
  have hN : cfg0.N = 32 := N_0
  let t : Fin cfg0.N := ⟨4 * (i (0 : Fin 3)).val + (i (1 : Fin 3)).val / 512, by omega⟩
  have ht : t.val = 4 * (i (0 : Fin 3)).val + (i (1 : Fin 3)).val / 512 := rfl
  have i0 : win0_9.index t (0 : Fin 3) = t.val / 4 := congrFun (idx9 t) 0
  have i1 : win0_9.index t (1 : Fin 3) = t.val % 4 := congrFun (idx9 t) 1
  have i2 : win0_9.index t (2 : Fin 3) = 0 := congrFun (idx9 t) 2
  refine ⟨t, flush0_9 t, ?_⟩
  rw [mem_blk9]
  intro a
  match a with
  | ⟨0, _⟩ => show win0_9.index t (0 : Fin 3) * 1 ≤ (i (0 : Fin 3)).val ∧ (i (0 : Fin 3)).val < win0_9.index t (0 : Fin 3) * 1 + 1; omega
  | ⟨1, _⟩ => show win0_9.index t (1 : Fin 3) * 512 ≤ (i (1 : Fin 3)).val ∧ (i (1 : Fin 3)).val < win0_9.index t (1 : Fin 3) * 512 + 512; omega
  | ⟨2, _⟩ => show win0_9.index t (2 : Fin 3) * 1152 ≤ (i (2 : Fin 3)).val ∧ (i (2 : Fin 3)).val < win0_9.index t (2 : Fin 3) * 1152 + 1152; omega

theorem final9 (c : Dev nD) : (dats m 0 c).arrAt 9 cfg0.N = oCC (inp m c) :=
  (dats m 0 c).arrAt_eq_of_cover 9 _ (fun t hf => flushed9 m c t hf) covered9

/-! ## Window 10 -/

theorem idx10 : ∀ t : Fin cfg0.N, win0_10.index t = ![t.val / 4, 0, 0] :=
  (by decide +kernel : ∀ t : Fin grid0.N, win0_10.index t = ![t.val / 4, 0, 0])

theorem flushed10 (c : Dev nD) (t : Fin cfg0.N) (hf : (cfg0.win 10).flush t = true) :
    (dats m 0 c).flushed 10 t = ((cfg0.win 10).blk t).view.read (Elt Ideal) (oCS (inp m c)) := by
  show (cfg0.win 10).cut (grid0.coords t) ((dats m 0 c).after 10 t) = _
  rw [after0_10]
  funext y
  have h0 : (y (0 : Fin 3)).val < 1 := (y (0 : Fin 3)).isLt
  have e0 : (((cfg0.win 10).blk t).view.emb y (0 : Fin 3)).val = win0_10.index t (0 : Fin 3) * 1 + 1 * (y (0 : Fin 3)).val := rfl
  have e1 : (((cfg0.win 10).blk t).view.emb y (1 : Fin 3)).val = win0_10.index t (1 : Fin 3) * 64 + 1 * (y (1 : Fin 3)).val := rfl
  have e2 : (((cfg0.win 10).blk t).view.emb y (2 : Fin 3)).val = win0_10.index t (2 : Fin 3) * 1152 + 1 * (y (2 : Fin 3)).val := rfl
  have i0 : win0_10.index t (0 : Fin 3) = t.val / 4 := congrFun (idx10 t) 0
  have i1 : win0_10.index t (1 : Fin 3) = 0 := congrFun (idx10 t) 1
  have i2 : win0_10.index t (2 : Fin 3) = 0 := congrFun (idx10 t) 2
  show cSc (inp m c) (64 * (t.val / 4) + (y (1 : Fin 3)).val) (y (2 : Fin 3)).val
    = cSc (inp m c) (64 * (((cfg0.win 10).blk t).view.emb y (0 : Fin 3)).val + (((cfg0.win 10).blk t).view.emb y (1 : Fin 3)).val) (((cfg0.win 10).blk t).view.emb y (2 : Fin 3)).val
  congr 1 <;> omega

theorem mem_blk10 (t : Fin cfg0.N) (i : S8x64x1152.Idx) :
    i ∈ ((cfg0.win 10).blk t).view.set ↔ ∀ a : Fin 3, win0_10.index t a * S1x64x1152.size a ≤ (i a).val ∧ (i a).val < win0_10.index t a * S1x64x1152.size a + S1x64x1152.size a := by
  show i ∈ ((View.whole main_v0_5).slice (win0_10.rect t)).set ↔ _
  rw [View.set_slice_whole, Rect.mem_set_unit]
  exact Iff.rfl

theorem covered10 (i : S8x64x1152.Idx) : ∃ t : Fin cfg0.N, (cfg0.win 10).flush t = true ∧ i ∈ ((cfg0.win 10).blk t).view.set := by
  have hi0 : (i (0 : Fin 3)).val < 8 := (i (0 : Fin 3)).isLt
  have hi1 : (i (1 : Fin 3)).val < 64 := (i (1 : Fin 3)).isLt
  have hi2 : (i (2 : Fin 3)).val < 1152 := (i (2 : Fin 3)).isLt
  have hN : cfg0.N = 32 := N_0
  let t : Fin cfg0.N := ⟨4 * (i (0 : Fin 3)).val + 3, by omega⟩
  have ht : t.val = 4 * (i (0 : Fin 3)).val + 3 := rfl
  have i0 : win0_10.index t (0 : Fin 3) = t.val / 4 := congrFun (idx10 t) 0
  have i1 : win0_10.index t (1 : Fin 3) = 0 := congrFun (idx10 t) 1
  have i2 : win0_10.index t (2 : Fin 3) = 0 := congrFun (idx10 t) 2
  refine ⟨t, (flush0_10 t).mpr (by omega), ?_⟩
  rw [mem_blk10]
  intro a
  match a with
  | ⟨0, _⟩ => show win0_10.index t (0 : Fin 3) * 1 ≤ (i (0 : Fin 3)).val ∧ (i (0 : Fin 3)).val < win0_10.index t (0 : Fin 3) * 1 + 1; omega
  | ⟨1, _⟩ => show win0_10.index t (1 : Fin 3) * 64 ≤ (i (1 : Fin 3)).val ∧ (i (1 : Fin 3)).val < win0_10.index t (1 : Fin 3) * 64 + 64; omega
  | ⟨2, _⟩ => show win0_10.index t (2 : Fin 3) * 1152 ≤ (i (2 : Fin 3)).val ∧ (i (2 : Fin 3)).val < win0_10.index t (2 : Fin 3) * 1152 + 1152; omega

theorem final10 (c : Dev nD) : (dats m 0 c).arrAt 10 cfg0.N = oCS (inp m c) :=
  (dats m 0 c).arrAt_eq_of_cover 10 _ (fun t hf => flushed10 m c t hf) covered10

/-! ## Window 6 -/

theorem idx6 : ∀ t : Fin cfg0.N, win0_6.index t = ![0, 0] :=
  (by decide +kernel : ∀ t : Fin grid0.N, win0_6.index t = ![0, 0])

theorem flushed6 (c : Dev nD) (t : Fin cfg0.N) (hf : (cfg0.win 6).flush t = true) :
    (dats m 0 c).flushed 6 t = ((cfg0.win 6).blk t).view.read (Elt Ideal) (oDW (inp m c)) := by
  show (cfg0.win 6).cut (grid0.coords t) ((dats m 0 c).after 6 t) = _
  rw [after0_6]
  have hN : cfg0.N = 32 := N_0
  have ht : t.val + 1 = 32 := by have := (flush0_6 t).mp hf; have := t.isLt; omega
  rw [ht]
  funext y
  have e0 : (((cfg0.win 6).blk t).view.emb y (0 : Fin 2)).val = win0_6.index t (0 : Fin 2) * 1152 + 1 * (y (0 : Fin 2)).val := rfl
  have e1 : (((cfg0.win 6).blk t).view.emb y (1 : Fin 2)).val = win0_6.index t (1 : Fin 2) * 2880 + 1 * (y (1 : Fin 2)).val := rfl
  have i0 : win0_6.index t (0 : Fin 2) = 0 := congrFun (idx6 t) 0
  have i1 : win0_6.index t (1 : Fin 2) = 0 := congrFun (idx6 t) 1
  show dw (inp m c) 32 (y (0 : Fin 2)).val (y (1 : Fin 2)).val
    = dw (inp m c) 32 (((cfg0.win 6).blk t).view.emb y (0 : Fin 2)).val (((cfg0.win 6).blk t).view.emb y (1 : Fin 2)).val
  congr 1 <;> omega

theorem mem_blk6 (t : Fin cfg0.N) (i : S1152x2880.Idx) :
    i ∈ ((cfg0.win 6).blk t).view.set ↔ ∀ a : Fin 2, win0_6.index t a * S1152x2880.size a ≤ (i a).val ∧ (i a).val < win0_6.index t a * S1152x2880.size a + S1152x2880.size a := by
  show i ∈ ((View.whole main_v0_1).slice (win0_6.rect t)).set ↔ _
  rw [View.set_slice_whole, Rect.mem_set_unit]
  exact Iff.rfl

theorem covered6 (i : S1152x2880.Idx) : ∃ t : Fin cfg0.N, (cfg0.win 6).flush t = true ∧ i ∈ ((cfg0.win 6).blk t).view.set := by
  have hi0 : (i (0 : Fin 2)).val < 1152 := (i (0 : Fin 2)).isLt
  have hi1 : (i (1 : Fin 2)).val < 2880 := (i (1 : Fin 2)).isLt
  have hN : cfg0.N = 32 := N_0
  let t : Fin cfg0.N := ⟨31, by omega⟩
  have i0 : win0_6.index t (0 : Fin 2) = 0 := congrFun (idx6 t) 0
  have i1 : win0_6.index t (1 : Fin 2) = 0 := congrFun (idx6 t) 1
  refine ⟨t, (flush0_6 t).mpr rfl, ?_⟩
  rw [mem_blk6]
  intro a
  match a with
  | ⟨0, _⟩ => show win0_6.index t (0 : Fin 2) * 1152 ≤ (i (0 : Fin 2)).val ∧ (i (0 : Fin 2)).val < win0_6.index t (0 : Fin 2) * 1152 + 1152; omega
  | ⟨1, _⟩ => show win0_6.index t (1 : Fin 2) * 2880 ≤ (i (1 : Fin 2)).val ∧ (i (1 : Fin 2)).val < win0_6.index t (1 : Fin 2) * 2880 + 2880; omega

theorem final6 (c : Dev nD) : (dats m 0 c).arrAt 6 cfg0.N = oDW (inp m c) :=
  (dats m 0 c).arrAt_eq_of_cover 6 _ (fun t hf => flushed6 m c t hf) covered6

/-- The run: each result the function of the inputs, the inputs unchanged. -/
theorem run : θ_run defs (onTc (τ := τ) (main (F := Ideal))) ⟨m, fun _ => 0, ρ⟩ fun r => ∀ c : Dev nD,
      r.2.mem ((c : Thread nD τ).loc main_v0_0) = oDX (inp m c)
      ∧ r.2.mem ((c : Thread nD τ).loc main_v0_1) = oDW (inp m c)
      ∧ r.2.mem ((c : Thread nD τ).loc main_v0_2) = oRC (inp m c)
      ∧ r.2.mem ((c : Thread nD τ).loc main_v0_3) = oRS (inp m c)
      ∧ r.2.mem ((c : Thread nD τ).loc main_v0_4) = oCC (inp m c)
      ∧ r.2.mem ((c : Thread nD τ).loc main_v0_5) = oCS (inp m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c), ((h c).1 7).trans (final7 m c), ((h c).1 8).trans (final8 m c), ((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.KernelIdeal.Hand

end
-- ==== Proof.RefEq.lean ====
module

public import proofs.«01_k».proof.Proof.RefValue
public import proofs.«01_k».proof.Proof.Groups
public import proofs.«01_k».proof.Proof.Final

@[expose] public section

set_option maxRecDepth 16384

noncomputable section

/-! # The reference's results are the kernel's functions of the inputs -/

namespace Cert.ReferenceIdeal.Hand

open Cert.ReferenceIdeal.Gen Cert.ReferenceIdeal.Run Idealize.ShloMosaic Cert.Mx
open Cert.KernelIdeal.Hand (oDX oDW oRC oRS oCC oCS)

variable (dy : Vec Ideal S8x2048x1152 .bf16) (xc : Vec Ideal S8x2048x2880 .fp8e4m3) (xs : Vec Ideal S8x64x2880 .i8)
  (wc : Vec Ideal S1152x2880 .fp8e4m3) (ws : Vec Ideal S36x2880 .i8)

theorem ld0 : View.ld dy r0_0 = dy := View.ld_unit_zero (S := S8x2048x1152) hz0 _ dy

theorem pay24 : k0_pay24 dy xc xs wc ws = k0_pay2 dy := by rw [k0_pay24, ld0]
theorem pay25 : k0_pay25 dy xc xs wc ws = rowC dy := by rw [k0_pay25, ld0, rowC]
theorem pay26 : k0_pay26 dy xc xs wc ws = k0_pay7 (k0_pay4 dy) := by rw [k0_pay26, ld0]
theorem pay27 : k0_pay27 dy xc xs wc ws = colC (k0_pay2 dy) := by rw [k0_pay27, pay24, colC]
theorem pay28 : k0_pay28 dy xc xs wc ws = k0_pay14 (k0_pay9 (k0_pay2 dy)) := by rw [k0_pay28, pay24]

variable (ok : ∀ y, Ok (dy y))

theorem rowF (b : Fin 8) (i : Fin 2048) (g : Fin 36) :
    (fun k : Fin 32 => (inpOf dy xc xs wc ws).D (2048 * b.val + i.val) (32 * g.val + k.val)) = fun k : Fin 32 => dy (ix3 b i ⟨g.val * 32 + k.val, by omega⟩) :=
  funext fun k => inp_D (ix3 b i ⟨g.val * 32 + k.val, by omega⟩) rfl (by show 32 * g.val + k.val = g.val * 32 + k.val; omega)
theorem colF (b : Fin 8) (G : Fin 64) (n : Fin 1152) :
    (fun k : Fin 32 => (inpOf dy xc xs wc ws).D (32 * (64 * b.val + G.val) + k.val) n.val) = fun k : Fin 32 => dy (ix3 b ⟨G.val * 32 + k.val, by omega⟩ n) :=
  funext fun k => inp_D (ix3 b ⟨G.val * 32 + k.val, by omega⟩ n)
    (by show 32 * (64 * b.val + G.val) + k.val = 2048 * b.val + (G.val * 32 + k.val); omega) rfl

include ok

theorem rE_ref (b : Fin 8) (i : Fin 2048) (g : Fin 36) (z : Fin 1) : k0_pay4 dy (ix4 b i g z) = rE (inpOf dy xc xs wc ws) (2048 * b.val + i.val) g.val := by
  rw [rowE_at, rE, rowF, kE_eR _ fun k => ok _]
theorem rE_good (b : Fin 8) (i : Fin 2048) (g : Fin 36) : Good (rE (inpOf dy xc xs wc ws) (2048 * b.val + i.val) g.val) := by
  rw [rE, rowF]; exact kE_good _ fun k => ok _
theorem cE_ref (b : Fin 8) (G : Fin 64) (z : Fin 1) (n : Fin 1152) : k0_pay9 (k0_pay2 dy) (ix4 b G z n) = cE (inpOf dy xc xs wc ws) (64 * b.val + G.val) n.val := by
  rw [colE_at, cE, colF]
  exact kE_eR _ fun k => ok _
theorem cE_good (b : Fin 8) (G : Fin 64) (n : Fin 1152) : Good (cE (inpOf dy xc xs wc ws) (64 * b.val + G.val) n.val) := by
  rw [cE, colF]; exact kE_good _ fun k => ok _

theorem rC_ref (b : Fin 8) (i : Fin 2048) (n : Fin 1152) : rowC dy (ix3 b i n) = rC (inpOf dy xc xs wc ws) (2048 * b.val + i.val) n.val := by
  have h := rE_good dy xc xs wc ws ok b i ⟨n.val / 32, by omega⟩
  have inD : (inpOf dy xc xs wc ws).D (2048 * b.val + i.val) n.val = dy (ix3 b i n) := inp_D (ix3 b i n) rfl rfl
  rw [rowC_at, rE_ref dy xc xs wc ws ok, rC, inv_ldex h, inD]
theorem cC_ref (b : Fin 8) (i : Fin 2048) (n : Fin 1152) : colC (k0_pay2 dy) (ix3 b i n) = cC (inpOf dy xc xs wc ws) (2048 * b.val + i.val) n.val := by
  have h := cE_good dy xc xs wc ws ok b ⟨i.val / 32, by omega⟩ n
  have inD : (inpOf dy xc xs wc ws).D (2048 * b.val + i.val) n.val = dy (ix3 b i n) := inp_D (ix3 b i n) rfl rfl
  rw [colC_at, cE_ref dy xc xs wc ws ok, cC, inv_ldex h, inD]
  rw [show (2048 * b.val + i.val) / 32 = 64 * b.val + i.val / 32 by omega]
  rfl
theorem rS_ref (b : Fin 8) (i : Fin 2048) (g : Fin 36) :
    k0_pay7 (k0_pay4 dy) (ix3 b i g) = BitVec.setWidth 8 (IntOp.addi (rE (inpOf dy xc xs wc ws) (2048 * b.val + i.val) g.val) 127#32) := by
  rw [rowS_at, rE_ref dy xc xs wc ws ok]
theorem cS_ref (b : Fin 8) (G : Fin 64) (n : Fin 1152) :
    k0_pay14 (k0_pay9 (k0_pay2 dy)) (ix3 b G n) = BitVec.setWidth 8 (IntOp.addi (cE (inpOf dy xc xs wc ws) (64 * b.val + G.val) n.val) 127#32) := by
  rw [colS_at, cE_ref dy xc xs wc ws ok]

theorem rD_ref (b : Fin 8) (i : Fin 2048) (n : Fin 1152) :
    k0_pay15 (rowC dy) (k0_pay7 (k0_pay4 dy)) (ix3 b i n) = rD (inpOf dy xc xs wc ws) (2048 * b.val + i.val) n.val := by
  have h := rE_good dy xc xs wc ws ok b i ⟨n.val / 32, by omega⟩
  rw [wide_r_at, rC_ref dy xc xs wc ws ok, rS_ref dy xc xs wc ws ok, stored h, recip_ldex h, rD]
theorem cD_ref (b : Fin 8) (i : Fin 2048) (n : Fin 1152) :
    k0_pay21 (colC (k0_pay2 dy)) (k0_pay14 (k0_pay9 (k0_pay2 dy))) (ix3 b i n) = cD (inpOf dy xc xs wc ws) (2048 * b.val + i.val) n.val := by
  have h := cE_good dy xc xs wc ws ok b ⟨i.val / 32, by omega⟩ n
  rw [wide_c_at, cC_ref dy xc xs wc ws ok, cS_ref dy xc xs wc ws ok, stored h, pow_ldex h, cD]
  have e' : (2048 * b.val + i.val) / 32 = 64 * b.val + i.val / 32 := by omega
  simp only [e']
omit ok in
theorem xD_ref (b : Fin 8) (i : Fin 2048) (d : Fin 2880) : wideX xc xs (ix3 b i d) = xD (inpOf dy xc xs wc ws) (2048 * b.val + i.val) d.val := by
  rw [wideX_at, ← sW_ldex, xD]
  have h1 : (inpOf dy xc xs wc ws).XC (2048 * b.val + i.val) d.val = xc (ix3 b i d) := inp_XC (ix3 b i d) rfl rfl
  have h2 : (inpOf dy xc xs wc ws).XS ((2048 * b.val + i.val) / 32) d.val = xs (ix3 b ⟨i.val / 32, by omega⟩ d) :=
    inp_XS (ix3 b ⟨i.val / 32, by omega⟩ d) (by show (2048 * b.val + i.val) / 32 = 64 * b.val + i.val / 32; omega) rfl
  rw [h1, h2]
omit ok in
theorem wD_ref (n : Fin 1152) (d : Fin 2880) : wideW wc ws (ix2 n d) = wD (inpOf dy xc xs wc ws) n.val d.val := by
  rw [wide_w_at, ← sW_ldex, wD]
  have h1 : (inpOf dy xc xs wc ws).WC n.val d.val = wc (ix2 n d) := inp_WC (ix2 n d) rfl rfl
  have h2 : (inpOf dy xc xs wc ws).WS (n.val / 32) d.val = ws (ix2 ⟨n.val / 32, by omega⟩ d) := inp_WS (ix2 ⟨n.val / 32, by omega⟩ d) rfl rfl
  rw [h1, h2]

theorem G5_eq : G5 dy xc xs wc ws = oDX (inpOf dy xc xs wc ws) := by
  funext y
  obtain ⟨b, i, d, rfl⟩ : ∃ (b : Fin 8) (i : Fin 2048) (d : Fin 2880), y = ix3 b i d := ⟨y (0 : Fin 3), y (1 : Fin 3), y (2 : Fin 3), eq_ix3 y⟩
  rw [G5, pay25, pay26, dx_at]
  show _ = dx (inpOf dy xc xs wc ws) (2048 * b.val + i.val) d.val
  rw [dx]
  refine Finset.sum_congr rfl fun n _ => ?_
  rw [rD_ref dy xc xs wc ws ok, wD_ref dy xc xs wc ws]
theorem G6_eq : G6 dy xc xs wc ws = oDW (inpOf dy xc xs wc ws) := by
  funext y
  obtain ⟨n, d, rfl⟩ : ∃ (n : Fin 1152) (d : Fin 2880), y = ix2 n d := ⟨y (0 : Fin 2), y (1 : Fin 2), eq_ix2 y⟩
  rw [G6, pay27, pay28, dw_at]
  show _ = dw (inpOf dy xc xs wc ws) 32 n.val d.val
  rw [dw_rows]
  exact Finset.sum_congr rfl fun b _ => Finset.sum_congr rfl fun i _ => by rw [cD_ref dy xc xs wc ws ok, xD_ref dy xc xs wc ws]
theorem G7_eq : G7 dy xc xs wc ws = oRC (inpOf dy xc xs wc ws) := by
  funext y
  obtain ⟨b, i, d, rfl⟩ : ∃ (b : Fin 8) (i : Fin 2048) (d : Fin 1152), y = ix3 b i d := ⟨y (0 : Fin 3), y (1 : Fin 3), y (2 : Fin 3), eq_ix3 y⟩
  rw [G7, pay25, rC_ref dy xc xs wc ws ok]
  rfl
theorem G8_eq : G8 dy xc xs wc ws = oRS (inpOf dy xc xs wc ws) := by
  funext y
  obtain ⟨b, i, d, rfl⟩ : ∃ (b : Fin 8) (i : Fin 2048) (d : Fin 36), y = ix3 b i d := ⟨y (0 : Fin 3), y (1 : Fin 3), y (2 : Fin 3), eq_ix3 y⟩
  rw [G8, pay26, rS_ref dy xc xs wc ws ok]
  rfl
theorem G9_eq : G9 dy xc xs wc ws = oCC (inpOf dy xc xs wc ws) := by
  funext y
  obtain ⟨b, i, d, rfl⟩ : ∃ (b : Fin 8) (i : Fin 2048) (d : Fin 1152), y = ix3 b i d := ⟨y (0 : Fin 3), y (1 : Fin 3), y (2 : Fin 3), eq_ix3 y⟩
  rw [G9, pay27, cC_ref dy xc xs wc ws ok]
  rfl
theorem G10_eq : G10 dy xc xs wc ws = oCS (inpOf dy xc xs wc ws) := by
  funext y
  obtain ⟨b, i, d, rfl⟩ : ∃ (b : Fin 8) (i : Fin 64) (d : Fin 1152), y = ix3 b i d := ⟨y (0 : Fin 3), y (1 : Fin 3), y (2 : Fin 3), eq_ix3 y⟩
  rw [G10, pay28, cS_ref dy xc xs wc ws ok]
  rfl

end Cert.ReferenceIdeal.Hand

end
-- ==== Proof.KRuns.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

/-! What the runs of the kernel at bits share: branch conditions, idle windows, staging and scratch. -/

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (Scalar.remsi (BitVec.ofNat 32 (i 0).val) 4#32) 0#32)) 0#32) = 1#1
/-- It holds at the points ≡ 0 (mod 4) — decided over the grid. -/
theorem hcond0_1 : ∀ t : Fin cfg0.N, cond0_1 (grid0.coords t) ↔ t.val % 4 = 0 :=
  (by decide +kernel : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≡ 3 (mod 4) — decided over the grid. -/
theorem hcond0_2 : ∀ t : Fin cfg0.N, cond0_2 (grid0.coords t) ↔ t.val % 4 = 3 :=
  (by decide +kernel : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2880 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x2880 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1152x2880 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S36x2880 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x2880 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x2880 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1152 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x36 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1152 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64x1152 .i8 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1152x2880 .bf16 := Memref.whole cc0_scratch0
abbrev scM0_1 : Memref sig .tc .vmem S512x1152 .bf16 := Memref.whole cc0_scratch1
abbrev scM0_2 : Memref sig .tc .vmem S1152x512 .bf16 := Memref.whole cc0_scratch2
abbrev scM0_3 : Memref sig .tc .vmem S64x2880 .i32 := Memref.whole cc0_scratch3
abbrev scM0_4 : Memref sig .tc .vmem S16x4x1152 .i32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KRunA.lean ====
module

public import proofs.«01_k».proof.Proof.KRuns

@[expose] public section

-- membership in a rectangle of production extents (`View.cover_of_tiled`): the elaborator's structural look
-- recurses once per coordinate of the long axes
set_option maxRecDepth 16384

noncomputable section

/-! One run of the kernel's body at bits, case A of its branches. -/

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5336000 in
/-- The body's triple IN CASE A (`scf.if` 0 taken, `scf.if` 1 taken, `scf.if` 2 not taken: points 0): on whole staging memrefs — the inputs' at their contents,
    the FORGOTTEN outputs' (5, 6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : cond0_0 i) (hc1 : cond0_1 i) (hc2 : ¬cond0_2 i)
    (x0 : Vec F S1x512x1152 .bf16) (x1 : Vec F S1x512x2880 .fp8e4m3) (x2 : Vec F S1x64x2880 .i8) (x3 : Vec F S1152x2880 .fp8e4m3) (x4 : Vec F S36x2880 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mx_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mx_linear_bwd_eq_skeleton]; unfold cc0_mx_linear_bwd_skel
    simp only [k0_part116_eq_skeleton, k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part117_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Hand

end
-- ==== Proof.KRunB.lean ====
module

public import proofs.«01_k».proof.Proof.KRunA

@[expose] public section

-- membership in a rectangle of production extents (`View.cover_of_tiled`): the elaborator's structural look
-- recurses once per coordinate of the long axes
set_option maxRecDepth 16384

noncomputable section

/-! One run of the kernel's body at bits, case B of its branches. -/

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4832000 in
/-- The body's triple IN CASE B (`scf.if` 0 not taken, `scf.if` 1 not taken, `scf.if` 2 not taken: points 1, 2, … 30: 16 of 32): on whole staging memrefs — the inputs' at their contents,
    the FORGOTTEN outputs' (5, 6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : ¬cond0_0 i) (hc1 : ¬cond0_1 i) (hc2 : ¬cond0_2 i)
    (x0 : Vec F S1x512x1152 .bf16) (x1 : Vec F S1x512x2880 .fp8e4m3) (x2 : Vec F S1x64x2880 .i8) (x3 : Vec F S1152x2880 .fp8e4m3) (x4 : Vec F S36x2880 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mx_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mx_linear_bwd_eq_skeleton]; unfold cc0_mx_linear_bwd_skel
    simp only [k0_part116_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part117_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Hand

end
-- ==== Proof.KRunC.lean ====
module

public import proofs.«01_k».proof.Proof.KRunB

@[expose] public section

-- membership in a rectangle of production extents (`View.cover_of_tiled`): the elaborator's structural look
-- recurses once per coordinate of the long axes
set_option maxRecDepth 16384

noncomputable section

/-! One run of the kernel's body at bits, case C of its branches. -/

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4848000 in
/-- The body's triple IN CASE C (`scf.if` 0 not taken, `scf.if` 1 not taken, `scf.if` 2 taken: points 3, 7, … 31: 8 of 32): on whole staging memrefs — the inputs' at their contents,
    the FORGOTTEN outputs' (5, 6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : ¬cond0_0 i) (hc1 : ¬cond0_1 i) (hc2 : cond0_2 i)
    (x0 : Vec F S1x512x1152 .bf16) (x1 : Vec F S1x512x2880 .fp8e4m3) (x2 : Vec F S1x64x2880 .i8) (x3 : Vec F S1152x2880 .fp8e4m3) (x4 : Vec F S36x2880 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mx_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mx_linear_bwd_eq_skeleton]; unfold cc0_mx_linear_bwd_skel
    simp only [k0_part116_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part117_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Hand

end
-- ==== Proof.KRunD.lean ====
module

public import proofs.«01_k».proof.Proof.KRunC

@[expose] public section

-- membership in a rectangle of production extents (`View.cover_of_tiled`): the elaborator's structural look
-- recurses once per coordinate of the long axes
set_option maxRecDepth 16384

noncomputable section

/-! One run of the kernel's body at bits, case D of its branches. -/

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5048000 in
/-- The body's triple IN CASE D (`scf.if` 0 not taken, `scf.if` 1 taken, `scf.if` 2 not taken: points 4, 8, … 28: 7 of 32): on whole staging memrefs — the inputs' at their contents,
    the FORGOTTEN outputs' (5, 6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S1x512x1152 .bf16) (harg1 : arg1.IsWhole) (arg2 : Memref sig .tc .vmem S1x512x2880 .fp8e4m3) (harg2 : arg2.IsWhole) (arg3 : Memref sig .tc .vmem S1x64x2880 .i8) (harg3 : arg3.IsWhole) (arg4 : Memref sig .tc .vmem S1152x2880 .fp8e4m3) (harg4 : arg4.IsWhole) (arg5 : Memref sig .tc .vmem S36x2880 .i8) (harg5 : arg5.IsWhole) (arg6 : Memref sig .tc .vmem S1x512x2880 .bf16) (harg6 : arg6.IsWhole) (arg7 : Memref sig .tc .vmem S1152x2880 .f32) (harg7 : arg7.IsWhole) (arg8 : Memref sig .tc .vmem S1x512x1152 .fp8e4m3) (harg8 : arg8.IsWhole) (arg9 : Memref sig .tc .vmem S1x512x36 .i8) (harg9 : arg9.IsWhole) (arg10 : Memref sig .tc .vmem S1x512x1152 .fp8e4m3) (harg10 : arg10.IsWhole) (arg11 : Memref sig .tc .vmem S1x64x1152 .i8) (harg11 : arg11.IsWhole) (arg12 : Memref sig .tc .vmem S1152x2880 .bf16) (harg12 : arg12.IsWhole) (arg13 : Memref sig .tc .vmem S512x1152 .bf16) (harg13 : arg13.IsWhole) (arg14 : Memref sig .tc .vmem S1152x512 .bf16) (harg14 : arg14.IsWhole) (arg15 : Memref sig .tc .vmem S64x2880 .i32) (harg15 : arg15.IsWhole) (arg16 : Memref sig .tc .vmem S16x4x1152 .i32) (harg16 : arg16.IsWhole) (hc0 : ¬cond0_0 i) (hc1 : cond0_1 i) (hc2 : ¬cond0_2 i)
    (x0 : Vec F S1x512x1152 .bf16) (x1 : Vec F S1x512x2880 .fp8e4m3) (x2 : Vec F S1x64x2880 .i8) (x3 : Vec F S1152x2880 .fp8e4m3) (x4 : Vec F S36x2880 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mx_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mx_linear_bwd_eq_skeleton]; unfold cc0_mx_linear_bwd_skel
    simp only [k0_part116_eq_skeleton, k0_part9_eq_skeleton, k0_part6_eq_skeleton, k0_part7_eq_skeleton, k0_part8_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part117_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Hand

end
-- ==== Proof.KFrame.lean ====
module

public import proofs.«01_k».proof.Proof.KRunD
public import Idealize.ShloMosaic.Lib.Claim

@[expose] public section

-- membership in a rectangle of production extents (`View.cover_of_tiled`): the elaborator's structural look
-- recurses once per coordinate of the long axes
set_option maxRecDepth 16384

noncomputable section

/-! The frame of the kernel at bits: the outputs are forgotten, the carried scratch is only owned. -/

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7, 8, 9, 10): nothing reads what the kernel leaves in them, so nothing
    of it is named (Lib/Pipeline/Dat.lean `Dat.toRForget`). -/
def forgets0 : Fin 11 → Bool := fun w => w.val == 5 || w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 6400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · by_cases h1 : t.val % 4 = 0
    · by_cases h2 : t.val % 4 = 3
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, HS0, HS1, HS2, HS3, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · exfalso; omega
  · by_cases h1 : t.val % 4 = 0
    · by_cases h2 : t.val % 4 = 3
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_D c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, HS0, HS1, HS2, HS3, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · by_cases h2 : t.val % 4 = 3
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, HS0, HS1, HS2, HS3, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, HS0, HS1, HS2, HS3, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — the claim cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Assemble.lean ====
module

public import proofs.«01_k».proof.Defs
public import proofs.«01_k».proof.Proof.RefEq
public import proofs.«01_k».proof.Proof.KFrame
public import Idealize.ShloMosaic.Lib.Claim

@[expose] public section

set_option maxRecDepth 16384

noncomputable section

/-! # The value claim -/

namespace Cert.Proof

open Idealize.ShloMosaic Idealize.SL.Sem Cert.Mx

theorem preFacts : Cert.Pre_dy_in_range.Facts where
  bitsLt_bf16_f32 := by decide
  bcast_S_S8x2048x1152 := by decide

/-- The frame of the idealized kernel, from its run: arguments unchanged, every counter at zero. -/
theorem frameI (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  θ_run_and (Cert.KernelIdeal.Hand.frame_of m ρ (Cert.KernelIdeal.Hand.dats m) (Cert.KernelIdeal.Hand.A_eq m) (Cert.KernelIdeal.Hand.run_main m ρ))
    ((θ_run Cert.KernelIdeal.defs _ _).mono (fun _ h => h.2) (Cert.KernelIdeal.Hand.run_main_quiescent m ρ))

/-- What the precondition says of one entry. -/
theorem ok_of_bit (x : EReal) (h : IntOp.ori (Ideal.cmp CmpFPredicate.ole (FloatOps.absf (F := Ideal) (φ := .f32) x) (Ideal.ofBits FTy.f32 0x7F7F0000#32))
    (Ideal.cmp CmpFPredicate.oeq (FloatOps.absf (F := Ideal) (φ := .f32) x) (Ideal.ofBits FTy.f32 0x7F800000#32)) = 1#1) : Ok x := by
  unfold Ok
  rw [infinity] at h
  by_contra hn
  rw [not_or] at hn
  have e1 : Ideal.cmp CmpFPredicate.ole (FloatOps.absf (F := Ideal) (φ := .f32) x) (Ideal.ofBits FTy.f32 0x7F7F0000#32) = 0#1 := by
    show BitVec.ofBool (decide _) = _
    rw [decide_eq_false hn.1]; rfl
  have e2 : Ideal.cmp CmpFPredicate.oeq (FloatOps.absf (F := Ideal) (φ := .f32) x) ⊤ = 0#1 := by
    show BitVec.ofBool (decide _) = _
    rw [decide_eq_false hn.2]; rfl
  rw [e1, e2] at h
  exact absurd h (by decide)

theorem ok_of_pre (m : (ℓ : Loc Cert.KernelIdeal.nD Cert.KernelIdeal.τ Cert.KernelIdeal.sig) → Buf (Elt Ideal) ℓ)
    (h : Pre_KernelIdeal_dy_in_range (hPre_dy_in_range := preFacts) m) (c : Dev Cert.KernelIdeal.nD) (y : Cert.ReferenceIdeal.S8x2048x1152.Idx) :
    Ok ((m ((c.tc : Thread Cert.KernelIdeal.nD Cert.KernelIdeal.τ).loc Cert.KernelIdeal.main_arg0) : Vec Ideal Cert.ReferenceIdeal.S8x2048x1152 .bf16) y) :=
  ok_of_bit _ (congrFun (h c) y)

/-- At every input in range both programs end with the same six results. -/
theorem algebraic : algebraic_KernelIdeal_ReferenceIdeal_pre_dy_in_range (hPre_dy_in_range := preFacts) := by
  intro m g m' g' hpre hin
  refine ⟨fun c => Cert.KernelIdeal.Hand.oDX (Cert.KernelIdeal.Hand.inp m c), fun c => Cert.KernelIdeal.Hand.oDW (Cert.KernelIdeal.Hand.inp m c),
    fun c => Cert.KernelIdeal.Hand.oRC (Cert.KernelIdeal.Hand.inp m c), fun c => Cert.KernelIdeal.Hand.oRS (Cert.KernelIdeal.Hand.inp m c),
    fun c => Cert.KernelIdeal.Hand.oCC (Cert.KernelIdeal.Hand.inp m c), fun c => Cert.KernelIdeal.Hand.oCS (Cert.KernelIdeal.Hand.inp m c),
    Cert.KernelIdeal.Hand.run m g, (θ_run _ _ _).mono (fun r h c => ?_) (Cert.ReferenceIdeal.Run.run m' g')⟩
  obtain ⟨h0, h1, h2, h3, h4, h5, hk⟩ := h c
  obtain ⟨a0, a1, a2, a3, a4⟩ := hin c
  rw [a0, a1, a2, a3, a4] at h0 h1 h2 h3 h4 h5
  have ok := ok_of_pre m hpre c
  exact ⟨h0.trans (Cert.ReferenceIdeal.Hand.G5_eq _ _ _ _ _ ok), h1.trans (Cert.ReferenceIdeal.Hand.G6_eq _ _ _ _ _ ok),
    h2.trans (Cert.ReferenceIdeal.Hand.G7_eq _ _ _ _ _ ok), h3.trans (Cert.ReferenceIdeal.Hand.G8_eq _ _ _ _ _ ok),
    h4.trans (Cert.ReferenceIdeal.Hand.G9_eq _ _ _ _ _ ok), h5.trans (Cert.ReferenceIdeal.Hand.G10_eq _ _ _ _ _ ok), hk⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Assemble
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, preFacts,
  fun m ρ _ => Cert.Kernel.Hand.frame m ρ, fun m ρ _ => frameI m ρ, fun m ρ _ => frameI m ρ,
  fun m ρ _ => Cert.ReferenceIdeal.Gen.frame m ρ, fun m ρ _ => Cert.ReferenceIdeal.Gen.frame m ρ, trivial, algebraic⟩

end Cert.Proof

end
